-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32768x93 : Shape := ⟨2, ![32768, 93]⟩
abbrev S32768 : Shape := ⟨1, ![32768]⟩
abbrev S16x500 : Shape := ⟨2, ![16, 500]⟩
abbrev S500x150 : Shape := ⟨2, ![500, 150]⟩
abbrev S150 : Shape := ⟨1, ![150]⟩
abbrev S93x150 : Shape := ⟨2, ![93, 150]⟩
abbrev S300x150 : Shape := ⟨2, ![300, 150]⟩
abbrev S150x1 : Shape := ⟨2, ![150, 1]⟩
abbrev S1 : Shape := ⟨1, ![1]⟩
abbrev S_ : Shape := ⟨0, ![]⟩
abbrev S150x150 : Shape := ⟨2, ![150, 150]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x93 : S_.BroadcastsInDim S32768x93 (![] : Fin 0 → Fin S32768x93.rank)
  reducesTo_S32768x93_S_d0_1 : S32768x93.ReducesTo [0, 1] S_
  bcast_S_S93x150 : S_.BroadcastsInDim S93x150 (![] : Fin 0 → Fin S93x150.rank)
  reducesTo_S93x150_S_d0_1 : S93x150.ReducesTo [0, 1] S_
  slices_S300x150_S150x150_150_0 : S300x150.Slices ![150, 0] S150x150
  bcast_S_S150x150 : S_.BroadcastsInDim S150x150 (![] : Fin 0 → Fin S150x150.rank)
  reducesTo_S150x150_S_d0_1 : S150x150.ReducesTo [0, 1] S_
  reducesTo_S150x1_S_d0_1 : S150x1.ReducesTo [0, 1] S_
  shapeCasts_S1_S_ : S1.ShapeCasts S_

variable [Facts]

def fn_part1 {F : FTy → Type} [FloatOps F] (main_arg9 : FVec F S150x1 .f32) (main_arg10 : FVec F S1 .f32) (main_v15 : IVec S_ 1) (main_v16 : FVec F S150x150 .f32) : IVec S_ 1 :=
  let main_v17 : FVec F S150x150 .f32 := Host.absf main_v16
  let main_cst_5 : FVec F S_ .f32 := constant S_ .f32 0x7F800000#32
  let main_v18 : FVec F S150x150 .f32 := broadcastInDim S150x150 ![] bcast_S_S150x150 main_cst_5
  let main_v19 : IVec S150x150 1 := cmpf .olt main_v17 main_v18
  let main_c_6 : IVec S_ 1 := constantI S_ 1 1#1
  let main_v20 : IVec S_ 1 := (fun x v => Host.reduce IntOp.andi x v reducesTo_S150x150_S_d0_1 h_S_) main_v19 main_c_6
  let main_v21 : IVec S_ 1 := andi main_v15 main_v20
  let main_v22 : FVec F S150x1 .f32 := Host.absf main_arg9
  let main_cst_7 : FVec F S_ .f32 := constant S_ .f32 0x00000000#32
  let main_v23 : FVec F S_ .f32 := (fun x v => Host.reduceAdd x v reducesTo_S150x1_S_d0_1 h_S_) main_v22 main_cst_7
  let main_v24 : FVec F S_ .f32 := shapeCast S_ main_arg10 shapeCasts_S1_S_
  let main_cst_8 : FVec F S_ .f32 := constant S_ .f32 0x42A00000#32
  let main_v25 : FVec F S_ .f32 := addf main_cst_8 main_v24
  let main_v26 : IVec S_ 1 := cmpf .ole main_v23 main_v25
  let main_v27 : IVec S_ 1 := andi main_v21 main_v26
  main_v27

def fn {F : FTy → Type} [FloatOps F] (main_arg0 : FVec F S32768x93 .f32) (main_arg1 : IVec S32768 32) (main_arg2 : FVec F S16x500 .f32) (main_arg3 : FVec F S500x150 .f32) (main_arg4 : FVec F S150 .f32) (main_arg5 : FVec F S93x150 .f32) (main_arg6 : FVec F S150 .f32) (main_arg7 : FVec F S300x150 .f32) (main_arg8 : FVec F S150 .f32) (main_arg9 : FVec F S150x1 .f32) (main_arg10 : FVec F S1 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : FVec F S32768x93 .f32 := Host.absf main_arg0
  let main_cst : FVec F S_ .f32 := constant S_ .f32 0x7F800000#32
  let main_v7 : FVec F S32768x93 .f32 := broadcastInDim S32768x93 ![] bcast_S_S32768x93 main_cst
  let main_v8 : IVec S32768x93 1 := cmpf .olt main_v6 main_v7
  let main_c_2 : IVec S_ 1 := constantI S_ 1 1#1
  let main_v9 : IVec S_ 1 := (fun x v => Host.reduce IntOp.andi x v reducesTo_S32768x93_S_d0_1 h_S_) main_v8 main_c_2
  let main_v10 : IVec S_ 1 := andi main_v5 main_v9
  let main_v11 : FVec F S93x150 .f32 := Host.absf main_arg5
  let main_cst_3 : FVec F S_ .f32 := constant S_ .f32 0x7F800000#32
  let main_v12 : FVec F S93x150 .f32 := broadcastInDim S93x150 ![] bcast_S_S93x150 main_cst_3
  let main_v13 : IVec S93x150 1 := cmpf .olt main_v11 main_v12
  let main_c_4 : IVec S_ 1 := constantI S_ 1 1#1
  let main_v14 : IVec S_ 1 := (fun x v => Host.reduce IntOp.andi x v reducesTo_S93x150_S_d0_1 h_S_) main_v13 main_c_4
  let main_v15 : IVec S_ 1 := andi main_v10 main_v14
  let main_v16 : FVec F S150x150 .f32 := (extractStridedSlice S150x150 ![150, 0] · slices_S300x150_S150x150_150_0) main_arg7
  fn_part1 (F := F) main_arg9 main_arg10 main_v15 main_v16
-- ==== Kernel.lean ====
abbrev S32768x93 : Shape := ⟨2, ![32768, 93]⟩
abbrev S32768 : Shape := ⟨1, ![32768]⟩
abbrev S16x500 : Shape := ⟨2, ![16, 500]⟩
abbrev S500x150 : Shape := ⟨2, ![500, 150]⟩
abbrev S150 : Shape := ⟨1, ![150]⟩
abbrev S93x150 : Shape := ⟨2, ![93, 150]⟩
abbrev S300x150 : Shape := ⟨2, ![300, 150]⟩
abbrev S150x1 : Shape := ⟨2, ![150, 1]⟩
abbrev S1 : Shape := ⟨1, ![1]⟩
abbrev S1x32768 : Shape := ⟨2, ![1, 32768]⟩
abbrev S1x150 : Shape := ⟨2, ![1, 150]⟩
abbrev S1x1 : Shape := ⟨2, ![1, 1]⟩
abbrev S8192x93 : Shape := ⟨2, ![8192, 93]⟩
abbrev S1x8192 : Shape := ⟨2, ![1, 8192]⟩
abbrev S150x93 : Shape := ⟨2, ![150, 93]⟩
abbrev S150x16 : Shape := ⟨2, ![150, 16]⟩
abbrev S16x1 : Shape := ⟨2, ![16, 1]⟩
abbrev S4x8192 : Shape := ⟨2, ![4, 8192]⟩
abbrev S150x150 : Shape := ⟨2, ![150, 150]⟩
abbrev S16x150 : Shape := ⟨2, ![16, 150]⟩
abbrev S16x8192 : Shape := ⟨2, ![16, 8192]⟩
abbrev S150x8192 : Shape := ⟨2, ![150, 8192]⟩
abbrev S8192 : Shape := ⟨1, ![8192]⟩
abbrev S16 : Shape := ⟨1, ![16]⟩
abbrev S32768x1 : Shape := ⟨2, ![32768, 1]⟩

abbrev nBuf : Space → Nat
  | .hbm => 18
  | .vmem => 20
  | .smem => 0
  | _ => 0

abbrev bufTy : (tb : Table) → Fin (tcTables nBuf tb) → BufTy
  | .hbm, ⟨0, _⟩ => ⟨S32768x93, .f32⟩
  | .hbm, ⟨1, _⟩ => ⟨S32768, .i32⟩
  | .hbm, ⟨2, _⟩ => ⟨S16x500, .f32⟩
  | .hbm, ⟨3, _⟩ => ⟨S500x150, .f32⟩
  | .hbm, ⟨4, _⟩ => ⟨S150, .f32⟩
  | .hbm, ⟨5, _⟩ => ⟨S93x150, .f32⟩
  | .hbm, ⟨6, _⟩ => ⟨S150, .f32⟩
  | .hbm, ⟨7, _⟩ => ⟨S300x150, .f32⟩
  | .hbm, ⟨8, _⟩ => ⟨S150, .f32⟩
  | .hbm, ⟨9, _⟩ => ⟨S150x1, .f32⟩
  | .hbm, ⟨10, _⟩ => ⟨S1, .f32⟩
  | .hbm, ⟨11, _⟩ => ⟨S1x32768, .i32⟩
  | .hbm, ⟨12, _⟩ => ⟨S1x150, .f32⟩
  | .hbm, ⟨13, _⟩ => ⟨S1x150, .f32⟩
  | .hbm, ⟨14, _⟩ => ⟨S150x1, .f32⟩
  | .hbm, ⟨15, _⟩ => ⟨S1x1, .f32⟩
  | .hbm, ⟨16, _⟩ => ⟨S1x32768, .f32⟩
  | .hbm, ⟨17, _⟩ => ⟨S32768x1, .f32⟩
  | .local _ .vmem, ⟨0, _⟩ => ⟨S8192x93, .f32⟩
  | .local _ .vmem, ⟨1, _⟩ => ⟨S8192x93, .f32⟩
  | .local _ .vmem, ⟨2, _⟩ => ⟨S1x8192, .i32⟩
  | .local _ .vmem, ⟨3, _⟩ => ⟨S1x8192, .i32⟩
  | .local _ .vmem, ⟨4, _⟩ => ⟨S1x32768, .i32⟩
  | .local _ .vmem, ⟨5, _⟩ => ⟨S16x500, .f32⟩
  | .local _ .vmem, ⟨6, _⟩ => ⟨S500x150, .f32⟩
  | .local _ .vmem, ⟨7, _⟩ => ⟨S1x150, .f32⟩
  | .local _ .vmem, ⟨8, _⟩ => ⟨S93x150, .f32⟩
  | .local _ .vmem, ⟨9, _⟩ => ⟨S1x150, .f32⟩
  | .local _ .vmem, ⟨10, _⟩ => ⟨S300x150, .f32⟩
  | .local _ .vmem, ⟨11, _⟩ => ⟨S150x1, .f32⟩
  | .local _ .vmem, ⟨12, _⟩ => ⟨S150x1, .f32⟩
  | .local _ .vmem, ⟨13, _⟩ => ⟨S1x1, .f32⟩
  | .local _ .vmem, ⟨14, _⟩ => ⟨S1x32768, .f32⟩
  | .local _ .vmem, ⟨15, _⟩ => ⟨S150x93, .f32⟩
  | .local _ .vmem, ⟨16, _⟩ => ⟨S150x16, .f32⟩
  | .local _ .vmem, ⟨17, _⟩ => ⟨S16x1, .f32⟩
  | .local _ .vmem, ⟨18, _⟩ => ⟨S16x1, .f32⟩
  | .local _ .vmem, ⟨19, _⟩ => ⟨S4x8192, .f32⟩
  | _, _ => ⟨S32768x93, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let v33 : Index := Scalar.indexCast arg0
  let c0_16 : Index := 0#32
  ![v33.toNat, 0]
def k0_cond3 (i : grid0.Coords) : BitVec 1 :=
  let arg0 : BitVec 32 := BitVec.ofNat 32 (i 0).val
  let c3_i32 : BitVec 32 := 3#32
  let v6 : BitVec 1 := Scalar.cmpi .eq arg0 c3_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x93 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S93x150 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x150 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S300x150 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S150x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S150x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S32768x93 : Shape := ⟨2, ![32768, 93]⟩
abbrev S32768 : Shape := ⟨1, ![32768]⟩
abbrev S16x500 : Shape := ⟨2, ![16, 500]⟩
abbrev S500x150 : Shape := ⟨2, ![500, 150]⟩
abbrev S150 : Shape := ⟨1, ![150]⟩
abbrev S93x150 : Shape := ⟨2, ![93, 150]⟩
abbrev S300x150 : Shape := ⟨2, ![300, 150]⟩
abbrev S150x1 : Shape := ⟨2, ![150, 1]⟩
abbrev S1 : Shape := ⟨1, ![1]⟩
abbrev S16x150 : Shape := ⟨2, ![16, 150]⟩
abbrev S1x150 : Shape := ⟨2, ![1, 150]⟩
abbrev S32768x150 : Shape := ⟨2, ![32768, 150]⟩
abbrev S_ : Shape := ⟨0, ![]⟩
abbrev S32768x1 : Shape := ⟨2, ![32768, 1]⟩
abbrev S1x1 : Shape := ⟨2, ![1, 1]⟩
abbrev S32768x300 : Shape := ⟨2, ![32768, 300]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩

abbrev nBuf : Space → Nat
  | .hbm => 122
  | .vmem => 0
  | .smem => 0
  | _ => 0

abbrev bufTy : (tb : Table) → Fin (tcTables nBuf tb) → BufTy
  | .hbm, ⟨0, _⟩ => ⟨S32768x93, .f32⟩
  | .hbm, ⟨1, _⟩ => ⟨S32768, .i32⟩
  | .hbm, ⟨2, _⟩ => ⟨S16x500, .f32⟩
  | .hbm, ⟨3, _⟩ => ⟨S500x150, .f32⟩
  | .hbm, ⟨4, _⟩ => ⟨S150, .f32⟩
  | .hbm, ⟨5, _⟩ => ⟨S93x150, .f32⟩
  | .hbm, ⟨6, _⟩ => ⟨S150, .f32⟩
  | .hbm, ⟨7, _⟩ => ⟨S300x150, .f32⟩
  | .hbm, ⟨8, _⟩ => ⟨S150, .f32⟩
  | .hbm, ⟨9, _⟩ => ⟨S150x1, .f32⟩
  | .hbm, ⟨10, _⟩ => ⟨S1, .f32⟩
  | .hbm, ⟨11, _⟩ => ⟨S16x150, .f32⟩
  | .hbm, ⟨12, _⟩ => ⟨S1x150, .f32⟩
  | .hbm, ⟨13, _⟩ => ⟨S16x150, .f32⟩
  | .hbm, ⟨14, _⟩ => ⟨S16x150, .f32⟩
  | .hbm, ⟨15, _⟩ => ⟨S32768x150, .f32⟩
  | .hbm, ⟨16, _⟩ => ⟨S1x150, .f32⟩
  | .hbm, ⟨17, _⟩ => ⟨S32768x150, .f32⟩
  | .hbm, ⟨18, _⟩ => ⟨S32768x150, .f32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768x1, .i32⟩
  | .hbm, ⟨27, _⟩ => ⟨S1, .i32⟩
  | .hbm, ⟨28, _⟩ => ⟨S_, .i32⟩
  | .hbm, ⟨29, _⟩ => ⟨S32768x1, .i32⟩
  | .hbm, ⟨30, _⟩ => ⟨S32768x1, .i1⟩
  | .hbm, ⟨31, _⟩ => ⟨S1x1, .i32⟩
  | .hbm, ⟨32, _⟩ => ⟨S32768x1, .i32⟩
  | .hbm, ⟨33, _⟩ => ⟨S32768x1, .i1⟩
  | .hbm, ⟨34, _⟩ => ⟨S32768x1, .i1⟩
  | .hbm, ⟨35, _⟩ => ⟨S_, .i1⟩
  | .hbm, ⟨36, _⟩ => ⟨S32768, .i1⟩
  | .hbm, ⟨37, _⟩ => ⟨S32768x150, .f32⟩
  | .hbm, ⟨38, _⟩ => ⟨S32768x150, .i1⟩
  | .hbm, ⟨39, _⟩ => ⟨S_, .f32⟩
  | .hbm, ⟨40, _⟩ => ⟨S32768x150, .f32⟩
  | .hbm, ⟨41, _⟩ => ⟨S32768x150, .f32⟩
  | .hbm, ⟨42, _⟩ => ⟨S32768x300, .f32⟩
  | .hbm, ⟨43, _⟩ => ⟨S32768x150, .f32⟩
  | .hbm, ⟨44, _⟩ => ⟨S1x150, .f32⟩
  | .hbm, ⟨45, _⟩ => ⟨S32768x150, .f32⟩
  | .hbm, ⟨46, _⟩ => ⟨S32768x150, .f32⟩
  | .hbm, ⟨47, _⟩ => ⟨S32768x150, .f32⟩
  | .hbm, ⟨48, _⟩ => ⟨S32768x1, .f32⟩
  | .hbm, ⟨49, _⟩ => ⟨S1x1, .f32⟩
  | .hbm, ⟨50, _⟩ => ⟨S32768x1, .f32⟩
  | .hbm, ⟨51, _⟩ => ⟨S32768x1, .f32⟩
  | .hbm, ⟨52, _⟩ => ⟨S32768, .f32⟩
  | .hbm, ⟨53, _⟩ => ⟨S1x32768, .i32⟩
  | .hbm, ⟨54, _⟩ => ⟨S16, .i32⟩
  | .hbm, ⟨55, _⟩ => ⟨S16x1, .i32⟩
  | .hbm, ⟨56, _⟩ => ⟨S16x32768, .i32⟩
  | .hbm, ⟨57, _⟩ => ⟨S16x32768, .i32⟩
  | .hbm, ⟨58, _⟩ => ⟨S16x32768, .i1⟩
  | .hbm, ⟨59, _⟩ => ⟨S1x32768, .f32⟩
  | .hbm, ⟨60, _⟩ => ⟨S_, .f32⟩
  | .hbm, ⟨61, _⟩ => ⟨S_, .f32⟩
  | .hbm, ⟨62, _⟩ => ⟨S16x32768, .f32⟩
  | .hbm, ⟨63, _⟩ => ⟨S16x32768, .f32⟩
  | .hbm, ⟨64, _⟩ => ⟨S16x32768, .f32⟩
  | .hbm, ⟨65, _⟩ => ⟨S_, .f32⟩
  | .hbm, ⟨66, _⟩ => ⟨S16, .f32⟩
  | .hbm, ⟨67, _⟩ => ⟨S_, .i32⟩
  | .hbm, ⟨68, _⟩ => ⟨S32768, .i32⟩
  | .hbm, ⟨69, _⟩ => ⟨S32768, .i1⟩
  | .hbm, ⟨70, _⟩ => ⟨S_, .i32⟩
  | .hbm, ⟨71, _⟩ => ⟨S32768, .i32⟩
  | .hbm, ⟨72, _⟩ => ⟨S32768, .i32⟩
  | .hbm, ⟨73, _⟩ => ⟨S32768, .i32⟩
  | .hbm, ⟨74, _⟩ => ⟨S32768x1, .i32⟩
  | .hbm, ⟨75, _⟩ => ⟨S1, .i32⟩
  | .hbm, ⟨76, _⟩ => ⟨S_, .i32⟩
  | .hbm, ⟨77, _⟩ => ⟨S32768x1, .i32⟩
  | .hbm, ⟨78, _⟩ => ⟨S32768x1, .i1⟩
  | .hbm, ⟨79, _⟩ => ⟨S1x1, .i32⟩
  | .hbm, ⟨80, _⟩ => ⟨S32768x1, .i32⟩
  | .hbm, ⟨81, _⟩ => ⟨S32768x1, .i1⟩
  | .hbm, ⟨82, _⟩ => ⟨S32768x1, .i1⟩
  | .hbm, ⟨83, _⟩ => ⟨S_, .i1⟩
  | .hbm, ⟨84, _⟩ => ⟨S32768, .i1⟩
  | .hbm, ⟨85, _⟩ => ⟨S32768, .f32⟩
  | .hbm, ⟨86, _⟩ => ⟨S_, .f32⟩
  | .hbm, ⟨87, _⟩ => ⟨S32768, .f32⟩
  | .hbm, ⟨88, _⟩ => ⟨S32768, .f32⟩
  | .hbm, ⟨89, _⟩ => ⟨S32768, .f32⟩
  | .hbm, ⟨90, _⟩ => ⟨S32768, .f32⟩
  | .hbm, ⟨91, _⟩ => ⟨S_, .f32⟩
  | .hbm, ⟨92, _⟩ => ⟨S16, .f32⟩
  | .hbm, ⟨93, _⟩ => ⟨S32768x1, .i32⟩
  | .hbm, ⟨94, _⟩ => ⟨S16, .f32⟩
  | .hbm, ⟨95, _⟩ => ⟨S_, .i32⟩
  | .hbm, ⟨96, _⟩ => ⟨S32768, .i32⟩
  | .hbm, ⟨97, _⟩ => ⟨S32768, .i1⟩
  | .hbm, ⟨98, _⟩ => ⟨S_, .i32⟩
  | .hbm, ⟨99, _⟩ => ⟨S32768, .i32⟩
  | .hbm, ⟨100, _⟩ => ⟨S32768, .i32⟩
  | .hbm, ⟨101, _⟩ => ⟨S32768, .i32⟩
  | .hbm, ⟨102, _⟩ => ⟨S32768x1, .i32⟩
  | .hbm, ⟨103, _⟩ => ⟨S1, .i32⟩
  | .hbm, ⟨104, _⟩ => ⟨S_, .i32⟩
  | .hbm, ⟨105, _⟩ => ⟨S32768x1, .i32⟩
  | .hbm, ⟨106, _⟩ => ⟨S32768x1, .i1⟩
  | .hbm, ⟨107, _⟩ => ⟨S1x1, .i32⟩
  | .hbm, ⟨108, _⟩ => ⟨S32768x1, .i32⟩
  | .hbm, ⟨109, _⟩ => ⟨S32768x1, .i1⟩
  | .hbm, ⟨110, _⟩ => ⟨S32768x1, .i1⟩
  | .hbm, ⟨111, _⟩ => ⟨S_, .i1⟩
  | .hbm, ⟨112, _⟩ => ⟨S32768, .i1⟩
  | .hbm, ⟨113, _⟩ => ⟨S32768, .f32⟩
  | .hbm, ⟨114, _⟩ => ⟨S_, .f32⟩
  | .hbm, ⟨115, _⟩ => ⟨S32768, .f32⟩
  | .hbm, ⟨116, _⟩ => ⟨S32768, .f32⟩
  | .hbm, ⟨117, _⟩ => ⟨S_, .f32⟩
  | .hbm, ⟨118, _⟩ => ⟨S32768, .f32⟩
  | .hbm, ⟨119, _⟩ => ⟨S32768, .f32⟩
  | .hbm, ⟨120, _⟩ => ⟨S32768, .f32⟩
  | .hbm, ⟨121, _⟩ => ⟨S32768x1, .f32⟩
  | _, _ => ⟨S32768x93, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v27 : Ref sig .tc := ⟨.hbm, 64, rfl⟩
abbrev main_cst_0 : Ref sig .tc := ⟨.hbm, 65, rfl⟩
abbrev main_v28 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_1 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v35 : Ref sig .tc := ⟨.hbm, 116, rfl⟩
abbrev main_cst_2 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩

abbrev nD : Nat := 1
abbrev τ : Topo := Topo.v7x

variable {F : FTy → Type} [FloatOps F]
-- ==== Proof.Numbers.lean ====
/- The arithmetic behind the claim, free of both programs: sums and products of extended reals that may be infinite,
   the values of the constants, a maximum and a sum over 32768 nodes taken in four blocks of 8192, and the
   equality of the two ways to normalise the exponentials of a segment. -/
module

public import Idealize.ShloMosaic.PureOps.Ideal.Laws
public import Idealize.ShloMosaic.Lib.IdealHost
public import Mathlib.Analysis.SpecialFunctions.Artanh

@[expose] public section

noncomputable section

namespace Cert.Attn

open Idealize.ShloMosaic

/-! ## Sums and products -/

/-- A real factor distributes over a sum with a real summand, whatever the other summand. -/
theorem coe_add_mul_coe (a r : ℝ) (b : EReal) : ((a : EReal) + b) * (r : EReal) = (a : EReal) * r + b * r := by
  induction b with
  | coe b => norm_cast; ring
  | bot =>
    rcases lt_trichotomy r 0 with h | rfl | h
    · rw [EReal.add_bot, EReal.bot_mul_coe_of_neg h, ← EReal.coe_mul, EReal.coe_add_top]
    · simp
    · rw [EReal.add_bot, EReal.bot_mul_coe_of_pos h, EReal.add_bot]
  | top =>
    rcases lt_trichotomy r 0 with h | rfl | h
    · rw [EReal.coe_add_top, EReal.top_mul_coe_of_neg h, EReal.add_bot]
    · simp
    · rw [EReal.coe_add_top, EReal.top_mul_coe_of_pos h, ← EReal.coe_mul, EReal.coe_add_top]

/-- The inclusion of the reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One hidden unit of one node before its `tanh`. On the left the kernel's order of summation: the two weight matrices
    multiplied first, then the features, plus the segment's column; on the right the reference's: the projections
    first, then the two halves of the joined row times the two halves of the weight matrix. The features, the second
    projection and the lower half of the weight matrix are real; the rest may be infinite. -/
theorem unit_eq {A B : ℕ} (x : Fin A → ℝ) (w : Fin A → Fin B → ℝ) (lo : Fin B → ℝ) (u up bb : Fin B → EReal) (b1 : EReal) :
    (∑ f, (∑ k, (lo k : EReal) * (w f k : EReal)) * (x f : EReal))
        + (((∑ k, up k * u k) + ∑ k, (lo k : EReal) * bb k) + b1)
      = ((∑ k, u k * up k) + ∑ k, ((∑ f, (x f : EReal) * (w f k : EReal)) + bb k) * (lo k : EReal)) + b1 := by
  have h1 : ∑ k, ((∑ f, (x f : EReal) * (w f k : EReal)) + bb k) * (lo k : EReal)
      = (∑ f, (∑ k, (lo k : EReal) * (w f k : EReal)) * (x f : EReal)) + ∑ k, (lo k : EReal) * bb k := by
    have e : ∀ k, ((∑ f, (x f : EReal) * (w f k : EReal)) + bb k) * (lo k : EReal)
        = ((∑ f, x f * w f k : ℝ) : EReal) * (lo k : EReal) + (lo k : EReal) * bb k := fun k => by
      rw [mul_comm (lo k : EReal) (bb k), ← coe_add_mul_coe, coe_sum]
      simp only [EReal.coe_mul]
    rw [Finset.sum_congr rfl fun k _ => e k, Finset.sum_add_distrib]
    congr 1
    simp only [← EReal.coe_mul, ← coe_sum]
    congr 1
    simp only [Finset.sum_mul]
    rw [Finset.sum_comm]
    exact Finset.sum_congr rfl fun f _ => Finset.sum_congr rfl fun k _ => by ring
  rw [h1, Finset.sum_congr rfl fun k _ => mul_comm (up k) (u k)]
  abel

/-- A sum against an indicator of one index picks that index's term, infinite terms included. -/
theorem sum_mul_ite {n : ℕ} (f : Fin n → EReal) (b : Fin n) : ∑ k, f k * (if b = k then 1 else 0) = f b := by
  simp

/-- A hyperbolic tangent is a real of absolute value at most one. -/
theorem tanh_real (x : EReal) : ∃ r : ℝ, |r| ≤ 1 ∧ Ideal.tanh x = (r : EReal) := by
  induction x with
  | coe x =>
    have h := Real.tanh_bijOn.mapsTo (Set.mem_univ x)
    exact ⟨Real.tanh x, abs_le.2 ⟨h.1.le, h.2.le⟩, Ideal.tanh_coe x⟩
  | bot => exact ⟨-1, by simp, by rw [Ideal.tanh_bot]; simp⟩
  | top => exact ⟨1, by simp, by rw [Ideal.tanh_top]; simp⟩

/-- An extended real whose absolute value is below `⊤` is a real. -/
theorem real_of_abs_lt_top {x : EReal} (h : max x (-x) < ⊤) : ∃ r : ℝ, x = (r : EReal) := by
  induction x with
  | coe x => exact ⟨x, rfl⟩
  | bot => simp at h
  | top => simp at h

/-! ## The constants -/

/-- The words the programs write for −∞, ∞, 80 and −80. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_eighty : Ideal.ofBits .f32 0x42A00000#32 = ((80 : ℝ) : EReal) := by
  simp [Ideal.ofBits, Ideal.ieee]; rw [← EReal.coe_mul]; norm_num
theorem ofBits_neg_eighty : Ideal.ofBits .f32 0xC2A00000#32 = ((-80 : ℝ) : EReal) := by
  simp [Ideal.ofBits, Ideal.ieee]; rw [← EReal.coe_mul]; norm_num

/-- The word that starts the running maximum is a real below −80. -/
theorem ofBits_floor : ∃ r : ℝ, r < -80 ∧ Ideal.ofBits .f32 0xF149F2CA#32 = (r : EReal) := by
  refine ⟨_, ?_, by simp only [Ideal.ofBits, Ideal.ieee]; simp; rfl⟩
  norm_num

/-- The word added to the denominator is a positive real. -/
theorem ofBits_tiny : ∃ r : ℝ, 0 < r ∧ Ideal.ofBits .f32 0x24E69595#32 = (r : EReal) := by
  refine ⟨_, ?_, by simp only [Ideal.ofBits, Ideal.ieee]; simp; rfl⟩
  norm_num

/-! ## Four blocks of 8192 nodes -/

/-- Node `l` of block `t`. -/
def node (t : Fin 4) (l : Fin 8192) : Fin 32768 := ⟨8192 * t.val + l.val, by omega⟩

/-- Every node is one of the four blocks'. -/
theorem node_surj (n : Fin 32768) : ∃ t l, node t l = n :=
  ⟨⟨n.val / 8192, by omega⟩, ⟨n.val % 8192, by omega⟩, Fin.ext (by simp only [node]; omega)⟩

/-- The four block sums, added up in order from zero, are the sum over the nodes. -/
theorem sum_blocks (f : Fin 32768 → EReal) :
    (((0 + ∑ l, f (node 0 l)) + ∑ l, f (node 1 l)) + ∑ l, f (node 2 l)) + ∑ l, f (node 3 l) = ∑ n, f n := by
  have h : ∑ n, f n = ∑ t : Fin 4, ∑ l : Fin 8192, f (node t l) := by
    rw [← Fintype.sum_prod_type' (fun t l => f (node t l))]
    refine (Fintype.sum_equiv (finProdFinEquiv (m := 4) (n := 8192)) _ _ fun p => ?_).symm
    refine congrArg f (Fin.ext ?_)
    show 8192 * p.1.val + p.2.val = p.2.val + 8192 * p.1.val
    omega
  rw [h, Fin.sum_univ_four, zero_add]

/-- The greatest score of segment `b`, `⊥` when the segment is empty. -/
def segMax (e : Fin 32768 → EReal) (id : Fin 32768 → Fin 16) (b : Fin 16) : EReal :=
  Finset.univ.fold max ⊥ fun n => if id n = b then e n else ⊥

/-- The sum over segment `b`. -/
def segSum (x : Fin 32768 → EReal) (id : Fin 32768 → Fin 16) (b : Fin 16) : EReal :=
  ∑ n, if id n = b then x n else 0

/-- A fold of the maximum is at most `u` exactly when its start and every term are. -/
theorem fold_max_le_iff {ι : Type*} [Fintype ι] (c : EReal) (f : ι → EReal) (u : EReal) :
    Finset.univ.fold max c f ≤ u ↔ c ≤ u ∧ ∀ i, f i ≤ u := by
  rw [Finset.fold_max_le]
  simp

/-- The four block maxima, each node outside the segment counted at the floor `c`, joined in order from the floor:
    the segment's maximum, or the floor if that is greater. -/
theorem max_blocks (e : Fin 32768 → EReal) (id : Fin 32768 → Fin 16) (b : Fin 16) (c : EReal) :
    let B : Fin 4 → EReal := fun t => Finset.univ.fold max ⊥ fun l => if id (node t l) = b then e (node t l) else c
    max (max (max (max c (B 0)) (B 1)) (B 2)) (B 3) = max (segMax e id b) c := by
  intro B
  refine eq_of_forall_ge_iff fun u => ?_
  have hB : ∀ t, B t ≤ u ↔ ∀ l, (if id (node t l) = b then e (node t l) else c) ≤ u := fun t => by
    rw [fold_max_le_iff]
    simp
  simp only [max_le_iff, hB, segMax, fold_max_le_iff]
  constructor
  · rintro ⟨⟨⟨⟨hc, h0⟩, h1⟩, h2⟩, h3⟩
    refine ⟨⟨bot_le, fun n => ?_⟩, hc⟩
    obtain ⟨t, l, rfl⟩ := node_surj n
    have h : (if id (node t l) = b then e (node t l) else c) ≤ u := by
      match t with
      | ⟨0, _⟩ => exact h0 l
      | ⟨1, _⟩ => exact h1 l
      | ⟨2, _⟩ => exact h2 l
      | ⟨3, _⟩ => exact h3 l
    split at h
    · next hb => rw [if_pos hb]; exact h
    · next hb => rw [if_neg hb]; exact bot_le
  · rintro ⟨⟨-, h⟩, hc⟩
    have h' : ∀ t l, (if id (node t l) = b then e (node t l) else c) ≤ u := fun t l => by
      have := h (node t l)
      split
      · next hb => rw [if_pos hb] at this; exact this
      · exact hc
    exact ⟨⟨⟨⟨hc, h' 0⟩, h' 1⟩, h' 2⟩, h' 3⟩

/-! ## The two normalisations -/

/-- The kernel's factor for a segment with running maximum `m` and sum of exponentials `s`. -/
def factor (m s : EReal) : EReal :=
  if 0 < s then
    Ideal.div (Ideal.exp (0 - max m (Ideal.ofBits .f32 0xC2A00000#32)))
      (Ideal.exp (0 - max m (Ideal.ofBits .f32 0xC2A00000#32)) * s + Ideal.ofBits .f32 0x24E69595#32)
  else 0

/-- Scores that are real and at least −80: the kernel's weight of node `n`, an exponential times its segment's
    factor, is the reference's, the exponential of the score less the segment's maximum over the segment's sum of
    those. -/
theorem weight_eq (e : Fin 32768 → ℝ) (id : Fin 32768 → Fin 16) (he : ∀ n, -80 ≤ e n) (n : Fin 32768) :
    Ideal.exp (e n)
        * factor (max (segMax (fun j => (e j : EReal)) id (id n)) (Ideal.ofBits .f32 0xF149F2CA#32))
            (segSum (fun j => Ideal.exp (e j)) id (id n))
      = Ideal.div (Ideal.exp ((e n : EReal) - segMax (fun j => (e j : EReal)) id (id n)))
          (segSum (fun j => Ideal.exp ((e j : EReal) - segMax (fun j => (e j : EReal)) id (id j))) id (id n)
            + Ideal.ofBits .f32 0x24E69595#32) := by
  classical
  obtain ⟨lo, hlo, elo⟩ := ofBits_floor
  obtain ⟨c, hc, ec⟩ := ofBits_tiny
  set b := id n with hb
  -- the segment's maximum is a real, at least this node's score
  obtain ⟨M, hM⟩ : ∃ M : ℝ, segMax (fun j => (e j : EReal)) id b = (M : EReal) := by
    have hle : (e n : EReal) ≤ segMax (fun j => (e j : EReal)) id b := by
      have := ((fold_max_le_iff ⊥ (fun j => if id j = b then (e j : EReal) else ⊥) _).1 le_rfl).2 n
      rwa [if_pos hb.symm] at this
    have hub : segMax (fun j => (e j : EReal)) id b ≤ ((∑ j, |e j| : ℝ) : EReal) := by
      refine (fold_max_le_iff _ _ _).2 ⟨bot_le, fun j => ?_⟩
      split
      · exact EReal.coe_le_coe_iff.2 ((le_abs_self _).trans
          (Finset.single_le_sum (f := fun j => |e j|) (fun _ _ => abs_nonneg _) (Finset.mem_univ j)))
      · exact bot_le
    have hbot : segMax (fun j => (e j : EReal)) id b ≠ ⊥ := fun h => by
      rw [h] at hle; exact EReal.coe_ne_bot _ (le_bot_iff.1 hle)
    have htop : segMax (fun j => (e j : EReal)) id b ≠ ⊤ := fun h => by
      rw [h] at hub; exact EReal.coe_ne_top _ (top_le_iff.1 hub)
    exact ⟨_, (EReal.coe_toReal htop hbot).symm⟩
  have hMn : e n ≤ M := by
    have := ((fold_max_le_iff ⊥ (fun j => if id j = b then (e j : EReal) else ⊥) _).1 le_rfl).2 n
    rw [if_pos hb.symm] at this
    exact EReal.coe_le_coe_iff.1 (hM ▸ this)
  have hM80 : -80 ≤ M := (he n).trans hMn
  -- the two sums are sums of reals
  have hS : segSum (fun j => Ideal.exp (e j)) id b = ((∑ j, if id j = b then Real.exp (e j) else 0 : ℝ) : EReal) := by
    rw [segSum, coe_sum]
    refine Finset.sum_congr rfl fun j _ => ?_
    split
    · exact Ideal.exp_coe _
    · exact EReal.coe_zero.symm
  have hT : segSum (fun j => Ideal.exp ((e j : EReal) - segMax (fun j => (e j : EReal)) id (id j))) id b
      = ((Real.exp (-M) * ∑ j, if id j = b then Real.exp (e j) else 0 : ℝ) : EReal) := by
    rw [segSum, Finset.mul_sum, coe_sum]
    refine Finset.sum_congr rfl fun j _ => ?_
    split
    · next h => rw [h, hM, ← EReal.coe_sub, Ideal.exp_coe, ← Real.exp_add, sub_eq_neg_add]
    · rw [mul_zero, EReal.coe_zero]
  have hpos : 0 < ∑ j, if id j = b then Real.exp (e j) else 0 := by
    refine lt_of_lt_of_le (Real.exp_pos (e n)) ?_
    have := Finset.single_le_sum (f := fun j => if id j = b then Real.exp (e j) else 0)
      (fun j _ => by split; exacts [(Real.exp_pos _).le, le_rfl]) (Finset.mem_univ n)
    rwa [if_pos hb.symm] at this
  rw [hT, hS, hM]
  generalize (∑ j, if id j = b then Real.exp (e j) else 0) = S at hpos
  rw [factor, if_pos (by exact_mod_cast hpos), elo, ofBits_neg_eighty, ec]
  have hmax : max (max (M : EReal) (lo : EReal)) ((-80 : ℝ) : EReal) = (M : EReal) := by
    rw [max_eq_left (EReal.coe_le_coe_iff.2 (by linarith)), max_eq_left (EReal.coe_le_coe_iff.2 hM80)]
  have hden : Real.exp (-M) * S + c ≠ 0 := by have := mul_pos (Real.exp_pos (-M)) hpos; linarith
  rw [hmax, zero_sub, ← EReal.coe_neg, Ideal.exp_coe, Ideal.exp_coe, ← EReal.coe_mul, ← EReal.coe_add,
    Ideal.div_coe hden, ← EReal.coe_sub, Ideal.exp_coe, Ideal.div_coe hden, ← EReal.coe_mul, ← EReal.coe_mul,
    ← EReal.coe_mul, sub_eq_add_neg, Real.exp_add, mul_assoc]

/-- Scores that are all infinite: both weights are zero. In the reference every score less its segment's maximum is −∞.
    In the kernel the score is −∞, or else the segment's maximum is ∞ and its factor zero. -/
theorem weight_infinite (e : Fin 32768 → EReal) (id : Fin 32768 → Fin 16) (he : ∀ n, e n = ⊤ ∨ e n = ⊥) (n : Fin 32768) :
    Ideal.exp (e n)
        * factor (max (segMax e id (id n)) (Ideal.ofBits .f32 0xF149F2CA#32)) (segSum (fun j => Ideal.exp (e j)) id (id n))
      = Ideal.div (Ideal.exp (e n - segMax e id (id n)))
          (segSum (fun j => Ideal.exp (e j - segMax e id (id j))) id (id n) + Ideal.ofBits .f32 0x24E69595#32) := by
  obtain ⟨c, hc, ec⟩ := ofBits_tiny
  have hle : ∀ j, e j ≤ segMax e id (id j) := fun j => by
    have := ((fold_max_le_iff ⊥ (fun i => if id i = id j then e i else ⊥) _).1 le_rfl).2 j
    rwa [if_pos rfl] at this
  have top : ∀ j, e j = ⊤ → segMax e id (id j) = ⊤ := fun j h => top_le_iff.1 (h ▸ hle j)
  have shift : ∀ j, Ideal.exp (e j - segMax e id (id j)) = 0 := fun j => by
    rcases he j with h | h
    · rw [top j h, EReal.sub_top, Ideal.exp_bot]
    · rw [h, EReal.bot_sub, Ideal.exp_bot]
  have hdiv : Ideal.div 0 (c : EReal) = 0 := Ideal.zero_div (EReal.coe_ne_zero.2 hc.ne')
  have hsum : segSum (fun j => Ideal.exp (e j - segMax e id (id j))) id (id n) = 0 :=
    Finset.sum_eq_zero fun j _ => by simp only [shift, ite_self]
  rw [hsum, shift, ec, zero_add, hdiv]
  rcases he n with h | h
  · have hf : ∀ s, factor (max ⊤ (Ideal.ofBits .f32 0xF149F2CA#32)) s = 0 := fun s => by
      unfold factor
      rw [max_eq_left le_top, max_eq_left le_top, EReal.sub_top, Ideal.exp_bot, zero_mul, zero_add, ec, hdiv, ite_self]
    rw [top n h, hf, mul_zero]
  · rw [h, Ideal.exp_bot, zero_mul]

end Cert.Attn

end
-- ==== Proof.Steps.lean ====
module

public import proofs.«01_k».proof.Proof.Gen.KernelIdeal.Frame.RunC
public import proofs.«01_k».proof.Proof.Numbers
public import Idealize.ShloMosaic.Lib.Pipeline.ValueKit.Geometry
public import Idealize.ShloMosaic.Lib.VecWindow
public import Idealize.ShloMosaic.Lib.Pipeline.ReadBack
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

/-- The run of the body at the first point, at that point's buffers. -/
abbrev runA (c : Dev nD) (t : Fin cfg0.N) (h0 : cond0_0 (grid0.coords t)) (h2 : ¬cond0_2 (grid0.coords t))
    (x0 : Vec F S8192x93 .f32) (x1 : Vec F S1x8192 .i32) (x2 : Vec F S1x32768 .i32) (x3 : Vec F S16x500 .f32) (x4 : Vec F S500x150 .f32) (x5 : Vec F S1x150 .f32) (x6 : Vec F S93x150 .f32) (x7 : Vec F S1x150 .f32) (x8 : Vec F S300x150 .f32) (x9 : Vec F S150x1 .f32) (x10 : Vec F S150x1 .f32) (x11 : Vec F S1x1 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _)
    h0 (hcond0_1 t) h2 x0 x1 x2 x3 x4 x5 x6 x7 x8 x9 x10 x11

/-- The run of the body at a middle point, from what the carried scratch holds. -/
abbrev runB (c : Dev nD) (t : Fin cfg0.N) (h0 : ¬cond0_0 (grid0.coords t)) (h2 : ¬cond0_2 (grid0.coords t))
    (x0 : Vec F S8192x93 .f32) (x1 : Vec F S1x8192 .i32) (x2 : Vec F S1x32768 .i32) (x3 : Vec F S16x500 .f32) (x4 : Vec F S500x150 .f32) (x5 : Vec F S1x150 .f32) (x6 : Vec F S93x150 .f32) (x7 : Vec F S1x150 .f32) (x8 : Vec F S300x150 .f32) (x9 : Vec F S150x1 .f32) (x10 : Vec F S150x1 .f32) (x11 : Vec F S1x1 .f32)
    (y0 : Vec F S150x93 .f32) (y1 : Vec F S150x16 .f32) (y2 y3 : Vec F S16x1 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _)
    h0 (hcond0_1 t) h2 x0 x1 x2 x3 x4 x5 x6 x7 x8 x9 x10 x11 y0 y1 y2 y3

/-- The run of the body at the last point, from what the carried scratch holds and the three rows of scores stored
    before. -/
abbrev runC (c : Dev nD) (t : Fin cfg0.N) (h0 : ¬cond0_0 (grid0.coords t)) (h2 : cond0_2 (grid0.coords t))
    (hl : k0_off1 (grid0.coords t) = ![3, 0])
    (x0 : Vec F S8192x93 .f32) (x1 : Vec F S1x8192 .i32) (x2 : Vec F S1x32768 .i32) (x3 : Vec F S16x500 .f32) (x4 : Vec F S500x150 .f32) (x5 : Vec F S1x150 .f32) (x6 : Vec F S93x150 .f32) (x7 : Vec F S1x150 .f32) (x8 : Vec F S300x150 .f32) (x9 : Vec F S150x1 .f32) (x10 : Vec F S150x1 .f32) (x11 : Vec F S1x1 .f32)
    (y0 : Vec F S150x93 .f32) (y1 : Vec F S150x16 .f32) (y2 y3 : Vec F S16x1 .f32) (e0 e1 e2 : Vec F S1x8192 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _)
    h0 (hcond0_1 t) h2 hl x0 x1 x2 x3 x4 x5 x6 x7 x8 x9 x10 x11 y0 y1 y2 y3 e0 e1 e2

section
variable (c : Dev nD) (t : Fin cfg0.N)
  (x0 : Vec F S8192x93 .f32) (x1 : Vec F S1x8192 .i32) (x2 : Vec F S1x32768 .i32) (x3 : Vec F S16x500 .f32) (x4 : Vec F S500x150 .f32) (x5 : Vec F S1x150 .f32) (x6 : Vec F S93x150 .f32) (x7 : Vec F S1x150 .f32) (x8 : Vec F S300x150 .f32) (x9 : Vec F S150x1 .f32) (x10 : Vec F S150x1 .f32) (x11 : Vec F S1x1 .f32)
  (y0 : Vec F S150x93 .f32) (y1 : Vec F S150x16 .f32) (y2 y3 : Vec F S16x1 .f32) (e0 e1 e2 : Vec F S1x8192 .f32)

section
variable {κ : Kind} {sp : Space} {S : Shape} {e : EltTy}

/-- Storing a whole buffer leaves what was stored. -/
theorem read_store (v : View sig κ sp S e) (f : v.ty.Contents (Elt F)) {off : Fin S.rank → ℕ}
    (inb : ∀ a, off a + S.size a ≤ S.size a) (w : S.Idx → Elt F e) (L : List (View.Piece (Elt F) S e)) :
    v.read (Elt F) (v.writes (Elt F) f ((⟨Rect.unit off (no_index S.size) inb, w⟩ : View.Piece (Elt F) S e) :: L)) = w :=
  v.read_writes_full f inb w L

/-- Loading a whole buffer reads it. -/
theorem load_whole (v : View sig κ sp S e) (f : v.ty.Contents (Elt F)) {off : Fin S.rank → ℕ}
    (inb : ∀ a, off a + S.size a ≤ S.size a) :
    v.readAt (Elt F) (Rect.unit off (no_index S.size) inb).toLoadRect f = v.read (Elt F) f :=
  v.readAt_full f inb

/-- Loading a whole buffer after storing it reads what was stored. -/
theorem load_store (v : View sig κ sp S e) {off off' : Fin S.rank → ℕ}
    (inb : ∀ a, off a + S.size a ≤ S.size a) (inb' : ∀ a, off' a + S.size a ≤ S.size a) (w : S.Idx → Elt F e)
    (L : List (View.Piece (Elt F) S e)) :
    v.readCov ((⟨Rect.unit off' (no_index S.size) inb', w⟩ : View.Piece (Elt F) S e) :: L)
      (Rect.unit off (no_index S.size) inb).toLoadRect = w :=
  v.readCov_full inb inb' w L
end

/-- The row a point stores its scores in. -/
theorem row_offset (t : Fin cfg0.N) : k0_off1 (grid0.coords t) = ![t.val, 0] := by
  revert t; decide +kernel

/-- The first point stores the combined feature weights. -/
theorem runA_weights (h0 : cond0_0 (grid0.coords t)) (h2 : ¬cond0_2 (grid0.coords t)) (f) :
    VS0_0.read (Elt F) (VS0_0.writes (Elt F) f (runA c t h0 h2 x0 x1 x2 x3 x4 x5 x6 x7 x8 x9 x10 x11).2.1) = k0_pay8 x8 x6 := by
  unfold runA kernelRun0_A
  dsimp only
  sl_unfold_words
  simp only [read_store, load_whole, load_store, Memref.IsWhole.read_unread, read_unread_whole]

/-- The first point stores the table of the segments' own contributions. -/
theorem runA_table (h0 : cond0_0 (grid0.coords t)) (h2 : ¬cond0_2 (grid0.coords t)) (f) :
    VS0_1.read (Elt F) (VS0_1.writes (Elt F) f (runA c t h0 h2 x0 x1 x2 x3 x4 x5 x6 x7 x8 x9 x10 x11).2.2.1) = k0_pay9 x8 x3 x4 x5 x7 x9 := by
  unfold runA kernelRun0_A
  dsimp only
  sl_unfold_words
  simp only [read_store, load_whole, load_store, Memref.IsWhole.read_unread, read_unread_whole]

/-- The first point leaves the first block's maxima over the starting value. -/
theorem runA_max (h0 : cond0_0 (grid0.coords t)) (h2 : ¬cond0_2 (grid0.coords t)) (f) :
    VS0_2.read (Elt F) (VS0_2.writes (Elt F) f (runA c t h0 h2 x0 x1 x2 x3 x4 x5 x6 x7 x8 x9 x10 x11).2.2.2.1) =
      k0_pay2 (k0_pay14 x1 (k0_pay8 x8 x6) x0 (k0_pay9 x8 x3 x4 x5 x7 x9) x10 x11) k0_pay10 := by
  unfold runA kernelRun0_A
  dsimp only
  sl_unfold_words
  simp only [read_store, load_whole, load_store, Memref.IsWhole.read_unread, read_unread_whole]

/-- The first point leaves the first block's sums over zero. -/
theorem runA_sum (h0 : cond0_0 (grid0.coords t)) (h2 : ¬cond0_2 (grid0.coords t)) (f) :
    VS0_3.read (Elt F) (VS0_3.writes (Elt F) f (runA c t h0 h2 x0 x1 x2 x3 x4 x5 x6 x7 x8 x9 x10 x11).2.2.2.2.1) =
      k0_pay3 (k0_pay15 x1 (k0_pay8 x8 x6) x0 (k0_pay9 x8 x3 x4 x5 x7 x9) x10 x11) k0_pay1 := by
  unfold runA kernelRun0_A
  dsimp only
  sl_unfold_words
  simp only [read_store, load_whole, load_store, Memref.IsWhole.read_unread, read_unread_whole]

/-- A middle point takes the block's maxima into the running ones. -/
theorem runB_max (h0 : ¬cond0_0 (grid0.coords t)) (h2 : ¬cond0_2 (grid0.coords t)) (f) :
    VS0_2.read (Elt F) (VS0_2.writes (Elt F) f (runB c t h0 h2 x0 x1 x2 x3 x4 x5 x6 x7 x8 x9 x10 x11 y0 y1 y2 y3).2.2.2.1) = k0_pay2 (k0_pay14 x1 y0 x0 y1 x10 x11) y2 := by
  unfold runB kernelRun0_B
  dsimp only
  sl_unfold_words
  simp only [read_store, load_whole, load_store, Memref.IsWhole.read_unread, read_unread_whole]

/-- A middle point adds the block's sums to the running ones. -/
theorem runB_sum (h0 : ¬cond0_0 (grid0.coords t)) (h2 : ¬cond0_2 (grid0.coords t)) (f) :
    VS0_3.read (Elt F) (VS0_3.writes (Elt F) f (runB c t h0 h2 x0 x1 x2 x3 x4 x5 x6 x7 x8 x9 x10 x11 y0 y1 y2 y3).2.2.2.2.1) = k0_pay3 (k0_pay15 x1 y0 x0 y1 x10 x11) y3 := by
  unfold runB kernelRun0_B
  dsimp only
  sl_unfold_words
  simp only [read_store, load_whole, load_store, Memref.IsWhole.read_unread, read_unread_whole]

/-- The last point takes the block's maxima into the running ones. -/
theorem runC_max (h0 : ¬cond0_0 (grid0.coords t)) (h2 : cond0_2 (grid0.coords t)) (hl : k0_off1 (grid0.coords t) = ![3, 0]) (f) :
    VS0_2.read (Elt F) (VS0_2.writes (Elt F) f (runC c t h0 h2 hl x0 x1 x2 x3 x4 x5 x6 x7 x8 x9 x10 x11 y0 y1 y2 y3 e0 e1 e2).2.2.2.1) = k0_pay2 (k0_pay14 x1 y0 x0 y1 x10 x11) y2 := by
  unfold runC kernelRun0_C
  dsimp only
  sl_unfold_words
  simp only [read_store, load_whole, load_store, Memref.IsWhole.read_unread, read_unread_whole]

/-- The last point adds the block's sums to the running ones. -/
theorem runC_sum (h0 : ¬cond0_0 (grid0.coords t)) (h2 : cond0_2 (grid0.coords t)) (hl : k0_off1 (grid0.coords t) = ![3, 0]) (f) :
    VS0_3.read (Elt F) (VS0_3.writes (Elt F) f (runC c t h0 h2 hl x0 x1 x2 x3 x4 x5 x6 x7 x8 x9 x10 x11 y0 y1 y2 y3 e0 e1 e2).2.2.2.2.1) = k0_pay3 (k0_pay15 x1 y0 x0 y1 x10 x11) y3 := by
  unfold runC kernelRun0_C
  dsimp only
  sl_unfold_words
  simp only [read_store, load_whole, load_store, Memref.IsWhole.read_unread, read_unread_whole]

/-- Storing one row of the score scratch changes that row and no other. -/
theorem read_row (v : View sig .tc .vmem S4x8192 .f32) (f : v.ty.Contents (Elt F)) {off : Fin 2 → ℕ} {n : ℕ}
    (hoff : off = ![n, 0]) (inb : ∀ a, off a + S1x8192.size a ≤ S4x8192.size a) (w : Vec F S1x8192 .f32)
    (j : Fin 4) (l : Fin 8192) :
    v.read (Elt F) (v.writes (Elt F) f [⟨Rect.unit (s := S4x8192) off S1x8192.size inb, w⟩]) (ix2 j l)
      = if j.val = n then w (ix2 0 l) else v.read (Elt F) f (ix2 j l) := by
  subst hoff
  split
  · next h =>
    have e : (Rect.unit (s := S4x8192) ![n, 0] S1x8192.size inb).emb (ix2 (0 : Fin 1) l) = ix2 j l := by
      funext a; apply Fin.ext; rw [ValueKit.rect_emb_unit_val]
      fin_cases a
      · show n + 0 = j.val; omega
      · show 0 + l.val = l.val; omega
    rw [← e, View.read_writes_cons_emb]
  · next h =>
    refine View.read_writes_apply_of_forall_not_mem _ _ _ _ fun p hp hm => ?_
    obtain rfl := List.mem_singleton.1 hp
    obtain ⟨x, hx⟩ := LoadRect.exists_idx_of_mem _ hm
    have e := congrArg (fun i : S4x8192.Idx => (i 0).val) hx
    dsimp only at e
    have e' : ((Rect.unit (s := S4x8192) ![n, 0] S1x8192.size inb).emb x 0).val = n + (x 0).val := ValueKit.rect_emb_unit_val _ _ _ _ _
    have hx0 : (x 0).val < 1 := (x 0).isLt
    have e'' : ((Rect.unit (s := S4x8192) ![n, 0] S1x8192.size inb).emb x 0).val = j.val := e
    omega

/-- The first point stores its scores in its own row. -/
theorem runA_row (h0 : cond0_0 (grid0.coords t)) (h2 : ¬cond0_2 (grid0.coords t)) (f : VS0_4.ty.Contents (Elt F)) (j : Fin 4) (l : Fin 8192) :
    VS0_4.read (Elt F) (VS0_4.writes (Elt F) f (runA c t h0 h2 x0 x1 x2 x3 x4 x5 x6 x7 x8 x9 x10 x11).2.2.2.2.2.1) (ix2 j l)
      = if j.val = t.val then k0_pay13 x1 (k0_pay8 x8 x6) x0 (k0_pay9 x8 x3 x4 x5 x7 x9) x10 x11 (ix2 0 l) else VS0_4.read (Elt F) f (ix2 j l) := by
  unfold runA kernelRun0_A
  dsimp only
  sl_unfold_words
  simp only [read_store, load_whole, load_store, Memref.IsWhole.read_unread, read_unread_whole]
  exact read_row VS0_4 f (row_offset t) _ _ j l

/-- A middle point stores its scores in its own row. -/
theorem runB_row (h0 : ¬cond0_0 (grid0.coords t)) (h2 : ¬cond0_2 (grid0.coords t)) (f : VS0_4.ty.Contents (Elt F)) (j : Fin 4) (l : Fin 8192) :
    VS0_4.read (Elt F) (VS0_4.writes (Elt F) f (runB c t h0 h2 x0 x1 x2 x3 x4 x5 x6 x7 x8 x9 x10 x11 y0 y1 y2 y3).2.2.2.2.2.1) (ix2 j l)
      = if j.val = t.val then k0_pay13 x1 y0 x0 y1 x10 x11 (ix2 0 l) else VS0_4.read (Elt F) f (ix2 j l) := by
  unfold runB kernelRun0_B
  dsimp only
  sl_unfold_words
  simp only [read_store, load_whole, load_store, Memref.IsWhole.read_unread, read_unread_whole]
  exact read_row VS0_4 f (row_offset t) _ _ j l

/-- The last point stores its scores in its own row. -/
theorem runC_row (h0 : ¬cond0_0 (grid0.coords t)) (h2 : cond0_2 (grid0.coords t)) (hl : k0_off1 (grid0.coords t) = ![3, 0]) (f : VS0_4.ty.Contents (Elt F)) (j : Fin 4) (l : Fin 8192) :
    VS0_4.read (Elt F) (VS0_4.writes (Elt F) f (runC c t h0 h2 hl x0 x1 x2 x3 x4 x5 x6 x7 x8 x9 x10 x11 y0 y1 y2 y3 e0 e1 e2).2.2.2.2.2.1) (ix2 j l)
      = if j.val = t.val then k0_pay13 x1 y0 x0 y1 x10 x11 (ix2 0 l) else VS0_4.read (Elt F) f (ix2 j l) := by
  unfold runC kernelRun0_C
  dsimp only
  sl_unfold_words
  simp only [read_store, load_whole, load_store, Memref.IsWhole.read_unread, read_unread_whole]
  exact read_row VS0_4 f (row_offset t) _ _ j l

/-- The whole row of results the last point writes: block `j` is the kernel's last step over that block's ids and
    scores. -/
def resultRow (mx sm : Vec F S16x1 .f32) (ids : Vec F S1x32768 .i32) (e : Fin 4 → Vec F S1x8192 .f32) : Vec F S1x32768 .f32 :=
  fun i => k0_pay17 mx sm (fun k => ids (ix2 0 (node ⟨(i 1).val / 8192, by have := (i 1).isLt; change _ < 32768 at this; omega⟩ (k 1))))
    (e ⟨(i 1).val / 8192, by have := (i 1).isLt; change _ < 32768 at this; omega⟩)
    (ix2 0 ⟨(i 1).val % 8192, Nat.mod_lt _ (by norm_num)⟩)

/-- The row of results at a node of block `j`. -/
theorem resultRow_node (mx sm : Vec F S16x1 .f32) (ids : Vec F S1x32768 .i32) (e : Fin 4 → Vec F S1x8192 .f32)
    (j : Fin 4) (l : Fin 8192) :
    resultRow mx sm ids e (ix2 0 (node j l)) = k0_pay17 mx sm (fun k => ids (ix2 0 (node j (k 1)))) (e j) (ix2 0 l) := by
  have hj : (⟨(node j l).val / 8192, by have := (node j l).isLt; omega⟩ : Fin 4) = j :=
    Fin.ext (by show (8192 * j.val + l.val) / 8192 = j.val; omega)
  have hl : (⟨(node j l).val % 8192, Nat.mod_lt _ (by norm_num)⟩ : Fin 8192) = l :=
    Fin.ext (by show (8192 * j.val + l.val) % 8192 = l.val; omega)
  show k0_pay17 mx sm (fun k => ids (ix2 0 (node ⟨(node j l).val / 8192, _⟩ (k 1)))) (e ⟨(node j l).val / 8192, _⟩)
    (ix2 0 ⟨(node j l).val % 8192, _⟩) = _
  rw [hj, hl]

/-- Where a block's rectangle sits in the row. -/
theorem block_emb (j : Fin 4) {off : Fin 2 → ℕ} (hoff : off = ![0, 8192 * j.val])
    (inb : ∀ a, off a + S1x8192.size a ≤ S1x32768.size a) (l : Fin 8192) :
    (Rect.unit (s := S1x32768) off S1x8192.size inb).emb (ix2 (0 : Fin 1) l) = ix2 0 (node j l) := by
  subst hoff
  funext a; apply Fin.ext; rw [ValueKit.rect_emb_unit_val]
  fin_cases a
  · rfl
  · rfl

/-- The ids a block loads are that block's part of the row of ids. -/
theorem load_block (v : View sig .tc .vmem S1x32768 .i32) (f : v.ty.Contents (Elt F)) (ids : Vec F S1x32768 .i32)
    (hf : v.read (Elt F) f = ids) (j : Fin 4) {off : Fin 2 → ℕ} (hoff : off = ![0, 8192 * j.val])
    (inb : ∀ a, off a + S1x8192.size a ≤ S1x32768.size a) :
    v.readAt (Elt F) (Rect.unit (s := S1x32768) off S1x8192.size inb).toLoadRect f
      = fun k => ids (ix2 0 (node j (k 1))) := by
  funext k
  obtain ⟨l, rfl⟩ : ∃ l : Fin 8192, k = ix2 (0 : Fin 1) l := ⟨k 1, by funext a; fin_cases a <;> first | rfl | exact Subsingleton.elim (α := Fin 1) _ _⟩
  subst hf
  exact congrArg (v.read (Elt F) f) (block_emb j hoff inb l)

/-- Loading the row just stored reads what was stored. -/
theorem load_row (v : View sig .tc .vmem S4x8192 .f32) {off off' : Fin 2 → ℕ} (h : off' = off)
    (inb : ∀ a, off a + S1x8192.size a ≤ S4x8192.size a) (inb' : ∀ a, off' a + S1x8192.size a ≤ S4x8192.size a)
    (w : Vec F S1x8192 .f32) :
    v.readCov [(⟨Rect.unit (s := S4x8192) off' (no_index S1x8192.size) inb', w⟩ : View.Piece (Elt F) S4x8192 .f32)]
      (Rect.unit (s := S4x8192) off (no_index S1x8192.size) inb).toLoadRect = w := by
  subst h
  rw [View.readCov_eq_canon']
  funext k
  exact View.canon_cons_emb _ _ _ k

/-- The four rows are written by the same arithmetic. -/
theorem pay4_eq (mx sm : Vec F S16x1 .f32) (ids : Vec F S1x8192 .i32) (e : Vec F S1x8192 .f32) :
    k0_pay4 (k0_pay18 mx sm ids) (k0_pay19 e) = k0_pay17 mx sm ids e := by
  unfold k0_pay4 k0_pay18 k0_pay19 k0_pay17; rfl

/-- The third block's weights are formed as the first block's are. -/
theorem pay5_eq (mx sm : Vec F S16x1 .f32) (ids : Vec F S1x8192 .i32) (e : Vec F S1x8192 .f32) :
    k0_pay5 (k0_pay16 mx sm) (iota .tc S16x1 32 [0] iota_S16x1_d0_w32) ids e = k0_pay17 mx sm ids e := by
  unfold k0_pay5 k0_pay17; rfl

/-- The fourth block's weights are formed as the first block's are. -/
theorem pay6_eq (mx sm : Vec F S16x1 .f32) (ids : Vec F S1x8192 .i32) (e : Vec F S1x8192 .f32) :
    k0_pay6 (k0_pay16 mx sm) (iota .tc S16x1 32 [0] iota_S16x1_d0_w32) ids e = k0_pay17 mx sm ids e := by
  unfold k0_pay6 k0_pay17; rfl

/-- The block that the last step writes at a block's rectangle is that part of the whole row. -/
theorem result_piece (mx sm : Vec F S16x1 .f32) (v : View sig .tc .vmem S1x32768 .i32) (f : v.ty.Contents (Elt F))
    (ids : Vec F S1x32768 .i32) (hf : v.read (Elt F) f = ids) (e : Fin 4 → Vec F S1x8192 .f32) (e' : Vec F S1x8192 .f32)
    (j : Fin 4) (he : e' = e j) {off : Fin 2 → ℕ} (hoff : off = ![0, 8192 * j.val])
    (inb : ∀ a, off a + S1x8192.size a ≤ S1x32768.size a) (x : S1x8192.Idx) :
    k0_pay17 mx sm (v.readAt (Elt F) (Rect.unit (s := S1x32768) off S1x8192.size inb).toLoadRect f) e' x
      = resultRow mx sm ids e ((Rect.unit (s := S1x32768) off S1x8192.size inb).emb x) := by
  obtain ⟨l, rfl⟩ : ∃ l : Fin 8192, x = ix2 (0 : Fin 1) l :=
    ⟨x 1, by funext a; fin_cases a <;> first | rfl | exact Subsingleton.elim (α := Fin 1) _ _⟩
  rw [load_block v f ids hf j hoff inb, he]
  refine Eq.trans ?_ (congrArg (resultRow mx sm ids e) (block_emb j hoff inb l)).symm
  exact (resultRow_node mx sm ids e j l).symm

/-- The last point writes the whole row. -/
theorem runC_result (h0 : ¬cond0_0 (grid0.coords t)) (h2 : cond0_2 (grid0.coords t)) (hl : k0_off1 (grid0.coords t) = ![3, 0]) (f) :
    (ms0_12 t).view.read (Elt F) ((ms0_12 t).view.writes (Elt F) f (runC c t h0 h2 hl x0 x1 x2 x3 x4 x5 x6 x7 x8 x9 x10 x11 y0 y1 y2 y3 e0 e1 e2).1)
      = resultRow (k0_pay2 (k0_pay14 x1 y0 x0 y1 x10 x11) y2) (k0_pay3 (k0_pay15 x1 y0 x0 y1 x10 x11) y3) x2 (fun j => ![e0, e1, e2, (k0_pay13 x1 y0 x0 y1 x10 x11)] j) := by
  unfold runC kernelRun0_C
  dsimp only
  sl_unfold_words
  simp only [read_store, load_whole, load_store, Memref.IsWhole.read_unread, read_unread_whole]
  funext i
  obtain ⟨j, l, hi⟩ := node_surj (i 1)
  have hi' : i = ix2 (0 : Fin 1) (node j l) := by
    funext a
    fin_cases a
    · exact Subsingleton.elim (α := Fin 1) _ _
    · exact hi.symm
  have hm : ∀ {off : Fin 2 → ℕ} (hoff : off = ![0, 8192 * j.val]) (inb : ∀ a, off a + S1x8192.size a ≤ S1x32768.size a),
      i ∈ (Rect.unit (s := S1x32768) off S1x8192.size inb).set := fun hoff inb => by
    rw [hi', ← block_emb j hoff inb l]
    exact LoadRect.idx_mem _ _
  have cover : ∀ L : List (View.Piece (Elt F) S1x32768 .f32), (∀ p ∈ L, ∀ x, p.2 x = resultRow
      (k0_pay2 (k0_pay14 x1 y0 x0 y1 x10 x11) y2) (k0_pay3 (k0_pay15 x1 y0 x0 y1 x10 x11) y3) x2
      (fun j => ![e0, e1, e2, k0_pay13 x1 y0 x0 y1 x10 x11] j) (p.1.emb x)) → (∃ p ∈ L, i ∈ p.1.set) →
      (ms0_12 t).view.read (Elt F) ((ms0_12 t).view.writes (Elt F) f L) i = resultRow
      (k0_pay2 (k0_pay14 x1 y0 x0 y1 x10 x11) y2) (k0_pay3 (k0_pay15 x1 y0 x0 y1 x10 x11) y3) x2
      (fun j => ![e0, e1, e2, k0_pay13 x1 y0 x0 y1 x10 x11] j) i := fun L h1 h2 =>
    (View.read_writes_apply_eq_canon _ _ _ L h2).trans (View.canon_apply_of_pieces _ L h1 i h2)
  refine cover _ ?_ ?_
  · intro p hp x
    simp only [List.mem_cons, List.not_mem_nil, or_false] at hp
    have hr := (hs0_2 t).read_unread (Val := Elt F) x2
    rcases hp with rfl | rfl | rfl | rfl
    · refine (congrFun (pay6_eq _ _ _ _) x).trans (result_piece _ _ _ _ _ hr _ _ 3 ?_ ?_ _ x)
      · exact load_row VS0_4 hl _ _ _
      · rfl
    · refine (congrFun (pay5_eq _ _ _ _) x).trans (result_piece _ _ _ _ _ hr _ _ 2 ?_ ?_ _ x) <;> rfl
    · refine (congrFun (pay4_eq _ _ _ _) x).trans (result_piece _ _ _ _ _ hr _ _ 1 ?_ ?_ _ x) <;> rfl
    · refine result_piece _ _ _ _ _ hr _ _ 0 ?_ ?_ _ x <;> rfl
  · fin_cases j
    · exact ⟨_, .tail _ (.tail _ (.tail _ (.head _))), hm rfl inb_S1x32768_S1x8192_0_0⟩
    · exact ⟨_, .tail _ (.tail _ (.head _)), hm rfl inb_S1x32768_S1x8192_0_8192⟩
    · exact ⟨_, .tail _ (.head _), hm rfl inb_S1x32768_S1x8192_0_16384⟩
    · exact ⟨_, .head _, hm rfl inb_S1x32768_S1x8192_0_24576⟩

end

end Cert.Attn

end
-- ==== Proof.Carry.lean ====
module

public import proofs.«01_k».proof.Proof.Steps
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The grid point at which block `n` of nodes is scored. -/
def point (n : ℕ) : Fin cfg0.N := ⟨n % 4, (Nat.mod_lt _ (by norm_num)).trans_eq (show (4 : ℕ) = grid0.N from N_0.symm)⟩

/-- A point is the one of its number. -/
theorem point_val (t : Fin cfg0.N) : point t.val = t :=
  Fin.ext (Nat.mod_eq_of_lt (lt_of_lt_of_eq t.isLt (show cfg0.N = 4 from N_0)))

/-- The combined feature weights, made at the first point and kept. -/
def weights (c : Dev nD) : Vec F S150x93 .f32 := k0_pay8 (iblk m c 8 (point 0)) (iblk m c 6 (point 0))

/-- The segments' own contributions, made at the first point and kept. -/
def table (c : Dev nD) : Vec F S150x16 .f32 :=
  k0_pay9 (iblk m c 8 (point 0)) (iblk m c 3 (point 0)) (iblk m c 4 (point 0)) (iblk m c 5 (point 0)) (iblk m c 7 (point 0)) (iblk m c 9 (point 0))

/-- The scores of block `n`. -/
def scores (c : Dev nD) (n : ℕ) : Vec F S1x8192 .f32 :=
  k0_pay13 (iblk m c 1 (point n)) (weights m c) (iblk m c 0 (point n)) (table m c) (iblk m c 10 (point n)) (iblk m c 11 (point n))

/-- The running maxima of the segments before block `n`. -/
def maxima (c : Dev nD) : ℕ → Vec F S16x1 .f32
  | 0 => k0_pay10
  | n + 1 => k0_pay2 (k0_pay14 (iblk m c 1 (point n)) (weights m c) (iblk m c 0 (point n)) (table m c) (iblk m c 10 (point n)) (iblk m c 11 (point n))) (maxima c n)

/-- The running sums of the segments before block `n`. -/
def sums (c : Dev nD) : ℕ → Vec F S16x1 .f32
  | 0 => k0_pay1
  | n + 1 => k0_pay3 (k0_pay15 (iblk m c 1 (point n)) (weights m c) (iblk m c 0 (point n)) (table m c) (iblk m c 10 (point n)) (iblk m c 11 (point n))) (sums c n)

/-- The row of results the last point writes. -/
def result (c : Dev nD) : Vec F S1x32768 .f32 :=
  resultRow (maxima m c 4) (sums m c 4) (iblk m c 2 (point 3)) (fun j => scores m c j.val)

/-- What the five scratch buffers hold before block `n`: the combined weights, the table, the running maxima, the
    running sums, and the rows of scores so far. Before the first block nothing is known. -/
def Holds (c : Dev nD) (n : ℕ) (d0 : Vec F S150x93 .f32) (d1 : Vec F S150x16 .f32) (d2 d3 : Vec F S16x1 .f32) (d4 : Vec F S4x8192 .f32) : Prop :=
  (0 < n → d0 = weights m c ∧ d1 = table m c ∧ d2 = maxima m c n ∧ d3 = sums m c n)
    ∧ ∀ (j : Fin 4) (l : Fin 8192), j.val < n → d4 (ix2 j l) = scores m c j.val (ix2 0 l)

/-- A buffer read before any write to it holds what it held. -/
theorem rows_unread (d : Vec F S4x8192 .f32) :
    VS0_4.read (Elt F) ((Memref.isWhole_whole cc0_scratch4).unread d) = d := read_unread_whole _ _ _

/-- A scratch buffer of rows into which a point has stored its scores holds the rows up to that point's. -/
theorem rows_step (c : Dev nD) (t : Fin cfg0.N) (d d' : Vec F S4x8192 .f32) (w : Vec F S1x8192 .f32) (hw : w = scores m c t.val)
    (hd : ∀ (j : Fin 4) (l : Fin 8192), j.val < t.val → d (ix2 j l) = scores m c j.val (ix2 0 l))
    (h : ∀ (j : Fin 4) (l : Fin 8192), d' (ix2 j l) = if j.val = t.val then w (ix2 0 l) else d (ix2 j l)) :
    ∀ (j : Fin 4) (l : Fin 8192), j.val < t.val + 1 → d' (ix2 j l) = scores m c j.val (ix2 0 l) := by
  intro j l hj
  rw [h]
  split
  · next e => rw [hw, e]
  · next e => exact hd j l (by omega)

/-- After the first point. -/
theorem holds_first (c : Dev nD) (t : Fin cfg0.N) (h0 : cond0_0 (grid0.coords t)) (h2 : ¬cond0_2 (grid0.coords t)) (f0 f1 f2 f3)
    (d4 : Vec F S4x8192 .f32) :
    Holds m c (t.val + 1)
      (VS0_0.read (Elt F) (VS0_0.writes (Elt F) f0 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.1))
      (VS0_1.read (Elt F) (VS0_1.writes (Elt F) f1 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.1))
      (VS0_2.read (Elt F) (VS0_2.writes (Elt F) f2 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.1))
      (VS0_3.read (Elt F) (VS0_3.writes (Elt F) f3 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.1))
      (VS0_4.read (Elt F) (VS0_4.writes (Elt F) ((Memref.isWhole_whole cc0_scratch4).unread d4) (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.1)) := by
  have ht : t = point 0 := by
    rw [← point_val t]
    have h : t.val % 4 = 0 := (hcond0_0 t).1 h0
    have hN : t.val < 4 := lt_of_lt_of_eq t.isLt (show cfg0.N = 4 from N_0)
    rw [show t.val = 0 by omega]
  subst ht
  refine ⟨fun _ => ⟨?_, ?_, ?_, ?_⟩, ?_⟩
  · rw [runA_weights]; rfl
  · rw [runA_table]; rfl
  · rw [runA_max]; rfl
  · rw [runA_sum]; rfl
  · exact rows_step m c (point 0) d4 _ _ rfl (fun j l hj => absurd hj (Nat.not_lt_zero _)) fun j l => by
      rw [runA_row, rows_unread]; rfl

/-- After a middle point. -/
theorem holds_middle (c : Dev nD) (t : Fin cfg0.N) (h0 : ¬cond0_0 (grid0.coords t)) (h2 : ¬cond0_2 (grid0.coords t)) (f2 f3)
    (d0 : Vec F S150x93 .f32) (d1 : Vec F S150x16 .f32) (d2 d3 : Vec F S16x1 .f32) (d4 : Vec F S4x8192 .f32)
    (hd : Holds m c t.val d0 d1 d2 d3 d4) (hpos : 0 < t.val) :
    Holds m c (t.val + 1) d0 d1
      (VS0_2.read (Elt F) (VS0_2.writes (Elt F) f2 (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3).2.2.2.1))
      (VS0_3.read (Elt F) (VS0_3.writes (Elt F) f3 (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3).2.2.2.2.1))
      (VS0_4.read (Elt F) (VS0_4.writes (Elt F) ((Memref.isWhole_whole cc0_scratch4).unread d4) (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3).2.2.2.2.2.1)) := by
  obtain ⟨hc, hr⟩ := hd
  obtain ⟨rfl, rfl, rfl, rfl⟩ := hc hpos
  refine ⟨fun _ => ⟨rfl, rfl, ?_, ?_⟩, ?_⟩
  · rw [runB_max, maxima, point_val]
  · rw [runB_sum, sums, point_val]
  · exact rows_step m c t d4 _ _ (by rw [scores, point_val]) hr fun j l => by
      rw [runB_row, rows_unread]

/-- The last point's row of scores among the rows. -/
theorem load_scores (c : Dev nD) (n : ℕ) (d4 : Vec F S4x8192 .f32)
    (hd : ∀ (j : Fin 4) (l : Fin 8192), j.val < n → d4 (ix2 j l) = scores m c j.val (ix2 0 l)) (j : Fin 4) (hj : j.val < n)
    {off : Fin 2 → ℕ} (hoff : off = ![j.val, 0]) (inb : ∀ a, off a + S1x8192.size a ≤ S4x8192.size a) :
    VS0_4.readAt (Elt F) (Rect.unit (s := S4x8192) off S1x8192.size inb).toLoadRect ((Memref.isWhole_whole cc0_scratch4).unread d4)
      = scores m c j.val := by
  subst hoff
  funext k
  obtain ⟨l, rfl⟩ : ∃ l : Fin 8192, k = ix2 (0 : Fin 1) l :=
    ⟨k 1, by funext a; fin_cases a <;> first | rfl | exact Subsingleton.elim (α := Fin 1) _ _⟩
  have e : (Rect.unit (s := S4x8192) ![j.val, 0] S1x8192.size inb).emb (ix2 (0 : Fin 1) l) = ix2 j l := by
    funext a; apply Fin.ext; rw [ValueKit.rect_emb_unit_val]
    fin_cases a
    · show j.val + 0 = j.val; omega
    · show 0 + l.val = l.val; omega
  have h : VS0_4.read (Elt F) ((Memref.isWhole_whole cc0_scratch4).unread d4) = d4 := read_unread_whole _ _ _
  rw [← hd j l hj]
  refine Eq.trans (congrArg (VS0_4.read (Elt F) ((Memref.isWhole_whole cc0_scratch4).unread d4)) e) ?_
  rw [h]

/-- After the last point. -/
theorem holds_last (c : Dev nD) (t : Fin cfg0.N) (h0 : ¬cond0_0 (grid0.coords t)) (h2 : cond0_2 (grid0.coords t))
    (hl : k0_off1 (grid0.coords t) = ![3, 0]) (f2 f3)
    (d0 : Vec F S150x93 .f32) (d1 : Vec F S150x16 .f32) (d2 d3 : Vec F S16x1 .f32) (d4 : Vec F S4x8192 .f32) (e0 e1 e2 : Vec F S1x8192 .f32)
    (hd : Holds m c t.val d0 d1 d2 d3 d4) (hpos : 0 < t.val) :
    Holds m c (t.val + 1) d0 d1
      (VS0_2.read (Elt F) (VS0_2.writes (Elt F) f2 (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3 e0 e1 e2).2.2.2.1))
      (VS0_3.read (Elt F) (VS0_3.writes (Elt F) f3 (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3 e0 e1 e2).2.2.2.2.1))
      (VS0_4.read (Elt F) (VS0_4.writes (Elt F) ((Memref.isWhole_whole cc0_scratch4).unread d4) (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3 e0 e1 e2).2.2.2.2.2.1)) := by
  obtain ⟨hc, hr⟩ := hd
  obtain ⟨rfl, rfl, rfl, rfl⟩ := hc hpos
  refine ⟨fun _ => ⟨rfl, rfl, ?_, ?_⟩, ?_⟩
  · rw [runC_max, maxima, point_val]
  · rw [runC_sum, sums, point_val]
  · exact rows_step m c t d4 _ _ (by rw [scores, point_val]) hr fun j l => by
      rw [runC_row, rows_unread]

/-- The last point writes the row of results. -/
theorem writes_result (c : Dev nD) (t : Fin cfg0.N) (h0 : ¬cond0_0 (grid0.coords t)) (h2 : cond0_2 (grid0.coords t))
    (hl : k0_off1 (grid0.coords t) = ![3, 0]) (ht : t.val = 3) (f)
    (d0 : Vec F S150x93 .f32) (d1 : Vec F S150x16 .f32) (d2 d3 : Vec F S16x1 .f32) (d4 : Vec F S4x8192 .f32) (hd : Holds m c t.val d0 d1 d2 d3 d4) :
    (ms0_12 t).view.read (Elt F) ((ms0_12 t).view.writes (Elt F) f
        (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d0 d1 d2 d3 (scores m c 0) (scores m c 1) (scores m c 2)).1) = result m c := by
  obtain ⟨hc, -⟩ := hd
  obtain ⟨rfl, rfl, rfl, rfl⟩ := hc (by omega)
  obtain rfl : t = point 3 := by rw [← ht, point_val]
  rw [runC_result]
  unfold result
  have hj : ∀ j : Fin 4, scores m c j.val = (![scores m c 0, scores m c 1, scores m c 2, scores m c 3] : Fin 4 → Vec F S1x8192 .f32) j := by
    intro j; fin_cases j <;> rfl
  rw [funext hj]
  rfl

end Cert.Attn

end
-- ==== Proof.Body.lean ====
module

public import proofs.«01_k».proof.Proof.Carry
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What holds between points: the five scratch buffers as `Holds` says, and the generator register at some state. -/
def between (c : Dev nD) (n : ℕ) (_ : n ≤ cfg0.N) : sProp 𝕄 :=
  iprop(∃ d0 d1 d2 d3 d4, ⌜Holds m c n d0 d1 d2 d3 d4⌝
    ∗ (owns (c : Thread nD τ) scM0_0 fullShare d0 ∗ owns (c : Thread nD τ) scM0_1 fullShare d1
      ∗ owns (c : Thread nD τ) scM0_2 fullShare d2 ∗ owns (c : Thread nD τ) scM0_3 fullShare d3
      ∗ owns (c : Thread nD τ) scM0_4 fullShare d4)
    ∗ (∃ r, prngReg c r))

/-- The proof data: the inputs stay at their blocks, the output ends at the row of results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => result m c
  Φ t := between m c t.val (Nat.le_of_lt_succ t.isLt)
  q w := Pipeline.shareOf spec0 w
  owed _ := 0

/-- The arrays enter the region as the host operations left them. -/
theorem A_eq (c : Dev nD) (w : Fin cfg0.W) : (dats m 0 c).A w = V m c (Pipeline.arrRef spec0 w) := by
  dsimp only [dats]

/-- What the output's buffer ends at. -/
theorem after_12 (c : Dev nD) (t : Fin cfg0.N) : (dats m 0 c).after 12 t = result m c := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d
theorem before_11 (c : Dev nD) (t : Fin cfg0.N) (d) : (dats m 0 c).before 11 t d = iblk m c 11 t :=
  before0_11_of m (dats m 0 c) (A_eq m c 11) (fun _ => by dsimp only [dats]) t d

theorem leaves_0 (c : Dev nD) (t : Fin cfg0.N) :
    (dats m 0 c).leavesExact 0 t = owns (c : Thread nD τ) (ms0_0 t) fullShare (iblk m c 0 t) := by
  unfold Dat.leavesExact; rw [liveAt0_0 t]; dsimp only [dats]
theorem leaves_1 (c : Dev nD) (t : Fin cfg0.N) :
    (dats m 0 c).leavesExact 1 t = owns (c : Thread nD τ) (ms0_1 t) fullShare (iblk m c 1 t) := by
  unfold Dat.leavesExact; rw [liveAt0_1 t]; dsimp only [dats]
theorem leaves_2 (c : Dev nD) (t : Fin cfg0.N) :
    (dats m 0 c).leavesExact 2 t = owns (c : Thread nD τ) (ms0_2 t) fullShare (iblk m c 2 t) := by
  unfold Dat.leavesExact; rw [liveAt0_2 t]; dsimp only [dats]
theorem leaves_3 (c : Dev nD) (t : Fin cfg0.N) :
    (dats m 0 c).leavesExact 3 t = owns (c : Thread nD τ) (ms0_3 t) fullShare (iblk m c 3 t) := by
  unfold Dat.leavesExact; rw [liveAt0_3 t]; dsimp only [dats]
theorem leaves_4 (c : Dev nD) (t : Fin cfg0.N) :
    (dats m 0 c).leavesExact 4 t = owns (c : Thread nD τ) (ms0_4 t) fullShare (iblk m c 4 t) := by
  unfold Dat.leavesExact; rw [liveAt0_4 t]; dsimp only [dats]
theorem leaves_5 (c : Dev nD) (t : Fin cfg0.N) :
    (dats m 0 c).leavesExact 5 t = owns (c : Thread nD τ) (ms0_5 t) fullShare (iblk m c 5 t) := by
  unfold Dat.leavesExact; rw [liveAt0_5 t]; dsimp only [dats]
theorem leaves_6 (c : Dev nD) (t : Fin cfg0.N) :
    (dats m 0 c).leavesExact 6 t = owns (c : Thread nD τ) (ms0_6 t) fullShare (iblk m c 6 t) := by
  unfold Dat.leavesExact; rw [liveAt0_6 t]; dsimp only [dats]
theorem leaves_7 (c : Dev nD) (t : Fin cfg0.N) :
    (dats m 0 c).leavesExact 7 t = owns (c : Thread nD τ) (ms0_7 t) fullShare (iblk m c 7 t) := by
  unfold Dat.leavesExact; rw [liveAt0_7 t]; dsimp only [dats]
theorem leaves_8 (c : Dev nD) (t : Fin cfg0.N) :
    (dats m 0 c).leavesExact 8 t = owns (c : Thread nD τ) (ms0_8 t) fullShare (iblk m c 8 t) := by
  unfold Dat.leavesExact; rw [liveAt0_8 t]; dsimp only [dats]
theorem leaves_9 (c : Dev nD) (t : Fin cfg0.N) :
    (dats m 0 c).leavesExact 9 t = owns (c : Thread nD τ) (ms0_9 t) fullShare (iblk m c 9 t) := by
  unfold Dat.leavesExact; rw [liveAt0_9 t]; dsimp only [dats]
theorem leaves_10 (c : Dev nD) (t : Fin cfg0.N) :
    (dats m 0 c).leavesExact 10 t = owns (c : Thread nD τ) (ms0_10 t) fullShare (iblk m c 10 t) := by
  unfold Dat.leavesExact; rw [liveAt0_10 t]; dsimp only [dats]
theorem leaves_11 (c : Dev nD) (t : Fin cfg0.N) :
    (dats m 0 c).leavesExact 11 t = owns (c : Thread nD τ) (ms0_11 t) fullShare (iblk m c 11 t) := by
  unfold Dat.leavesExact; rw [liveAt0_11 t]; dsimp only [dats]

/-- At the last point the output is left at the row of results. -/
theorem leaves_12 (c : Dev nD) (t : Fin cfg0.N) (h0 : ¬cond0_0 (grid0.coords t)) (h2 : cond0_2 (grid0.coords t)) :
    (dats m 0 c).leavesExact 12 t = owns (c : Thread nD τ) (ms0_12 t) fullShare (result m c) := by
  unfold Dat.leavesExact; rw [liveAt0_12_C t h0 (hcond0_1 t) h2]; dsimp only [dats]

/-- The input buffers of a point, each at its block. -/
def inputs (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t))

/-- A point that is not the first. -/
theorem not_first (t : Fin cfg0.N) (h0 : ¬cond0_0 (grid0.coords t)) : 0 < t.val := by
  rcases Nat.eq_zero_or_pos t.val with h | h
  · exact absurd ((hcond0_0 t).2 (by rw [h])) h0
  · exact h

/-- The point that writes the results is the last. -/
theorem last_point (t : Fin cfg0.N) (h2 : cond0_2 (grid0.coords t)) : t.val = 3 := by
  have h : t.val % 4 = 3 := (hcond0_2 t).1 h2
  have hN : t.val < 4 := lt_of_lt_of_eq t.isLt (show cfg0.N = 4 from N_0)
  omega

/-- The body at the first point: it makes the tables and takes in the first block; the output is left alone. -/
theorem body_first (c : Dev nD) (t : Fin cfg0.N) (h0 : cond0_0 (grid0.coords t)) (h2 : ¬cond0_2 (grid0.coords t)) (xi : Vec F S1x32768 .f32) :
    iprop(inputs m c t ∗ owns (c : Thread nD τ) (ms0_12 t) fullShare xi ∗ between m c t.val (Nat.le_of_lt t.isLt))
      ⊢ wp frame (wpE (defs₀ (F := F)) Variants.none c none) Set.univ (bodyAt0 t)
          (fun _ => iprop(inputs m c t ∗ owns (c : Thread nD τ) (ms0_12 t) fullShare xi ∗ between m c (t.val + 1) t.isLt)) := by
  unfold inputs between bodyAt0
  iintro ⟨⟨H0, H1, H2, H3, H4, H5, H6, H7, H8, H9, H10, H11⟩, Hout, ⟨%y0, %y1, %y2, %y3, %y4, %hy, ⟨HS0, HS1, HS2, HS3, HS4⟩, Hg⟩⟩
  iapply ((runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 xi y4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hout]; · iexact Hout
  isplitl [HS0]; · iexists _; iexact HS0
  isplitl [HS1]; · iexists _; iexact HS1
  isplitl [HS2]; · iexists _; iexact HS2
  isplitl [HS3]; · iexists _; iexact HS3
  isplitl [HS4]; · iexact HS4
  iintro ⟨H0, H1, H2, H3, H4, H5, H6, H7, H8, H9, H10, H11, Hout, ⟨%f0, HS0⟩, ⟨%f1, HS1⟩, ⟨%f2, HS2⟩, ⟨%f3, HS3⟩, HS4⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [Hout]
  · iexact Hout
  iexists (VS0_0.read (Elt F) (VS0_0.writes (Elt F) f0 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.1)), (VS0_1.read (Elt F) (VS0_1.writes (Elt F) f1 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.1)), (VS0_2.read (Elt F) (VS0_2.writes (Elt F) f2 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.1)), (VS0_3.read (Elt F) (VS0_3.writes (Elt F) f3 (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.1)), (VS0_4.read (Elt F) (VS0_4.writes (Elt F) ((Memref.isWhole_whole cc0_scratch4).unread y4) (runA c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.1))
  isplitr
  · ipureintro; exact holds_first m c t h0 h2 f0 f1 f2 f3 y4
  isplitr [Hg]
  · isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    isplitl [HS3]
    · unfold owns; iexists _; isplitr
      swap; · iexact HS3
      ipureintro; rfl
    unfold owns; iexists _; isplitr
    swap; · iexact HS4
    ipureintro; rfl
  iexact Hg

/-- The body at a middle point: it takes in the block; the output is left alone. -/
theorem body_middle (c : Dev nD) (t : Fin cfg0.N) (h0 : ¬cond0_0 (grid0.coords t)) (h2 : ¬cond0_2 (grid0.coords t)) (xi : Vec F S1x32768 .f32) :
    iprop(inputs m c t ∗ owns (c : Thread nD τ) (ms0_12 t) fullShare xi ∗ between m c t.val (Nat.le_of_lt t.isLt))
      ⊢ wp frame (wpE (defs₀ (F := F)) Variants.none c none) Set.univ (bodyAt0 t)
          (fun _ => iprop(inputs m c t ∗ owns (c : Thread nD τ) (ms0_12 t) fullShare xi ∗ between m c (t.val + 1) t.isLt)) := by
  unfold inputs between bodyAt0
  iintro ⟨⟨H0, H1, H2, H3, H4, H5, H6, H7, H8, H9, H10, H11⟩, Hout, ⟨%y0, %y1, %y2, %y3, %y4, %hy, ⟨HS0, HS1, HS2, HS3, HS4⟩, Hg⟩⟩
  iapply ((runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3).2.2.2.2.2.2 xi y4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hout]; · iexact Hout
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, Hout, HS0, HS1, ⟨%f2, HS2⟩, ⟨%f3, HS3⟩, HS4⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [Hout]
  · iexact Hout
  iexists y0, y1, (VS0_2.read (Elt F) (VS0_2.writes (Elt F) f2 (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3).2.2.2.1)), (VS0_3.read (Elt F) (VS0_3.writes (Elt F) f3 (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3).2.2.2.2.1)), (VS0_4.read (Elt F) (VS0_4.writes (Elt F) ((Memref.isWhole_whole cc0_scratch4).unread y4) (runB c t h0 h2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3).2.2.2.2.2.1))
  isplitr
  · ipureintro; exact holds_middle m c t h0 h2 f2 f3 y0 y1 y2 y3 y4 hy (not_first t h0)
  isplitr [Hg]
  · isplitl [HS0]
    · iexact HS0
    isplitl [HS1]
    · iexact HS1
    isplitl [HS2]
    · unfold owns; iexists _; isplitr
      swap; · iexact HS2
      ipureintro; rfl
    isplitl [HS3]
    · unfold owns; iexists _; isplitr
      swap; · iexact HS3
      ipureintro; rfl
    unfold owns; iexists _; isplitr
    swap; · iexact HS4
    ipureintro; rfl
  iexact Hg

/-- The body at the last point: it takes in the block and writes the row of results. -/
theorem body_last (c : Dev nD) (t : Fin cfg0.N) (h0 : ¬cond0_0 (grid0.coords t)) (h2 : cond0_2 (grid0.coords t)) :
    iprop(inputs m c t ∗ (∃ d, owns (c : Thread nD τ) (ms0_12 t) fullShare d) ∗ between m c t.val (Nat.le_of_lt t.isLt))
      ⊢ wp frame (wpE (defs₀ (F := F)) Variants.none c none) Set.univ (bodyAt0 t)
          (fun _ => iprop(inputs m c t ∗ owns (c : Thread nD τ) (ms0_12 t) fullShare (result m c) ∗ between m c (t.val + 1) t.isLt)) := by
  unfold inputs between bodyAt0
  iintro ⟨⟨H0, H1, H2, H3, H4, H5, H6, H7, H8, H9, H10, H11⟩, Hout, ⟨%y0, %y1, %y2, %y3, %y4, %hy, ⟨HS0, HS1, HS2, HS3, HS4⟩, Hg⟩⟩
  have ht : t.val = 3 := last_point t h2
  have hl : k0_off1 (grid0.coords t) = ![3, 0] := by rw [row_offset, ht]
  iapply ((runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3 (scores m c 0) (scores m c 1) (scores m c 2)).2.2.2.2.2.2 y4
    (load_scores m c t.val y4 hy.2 0 (by rw [ht]; decide) rfl _) (load_scores m c t.val y4 hy.2 1 (by rw [ht]; decide) rfl _)
    (load_scores m c t.val y4 hy.2 2 (by rw [ht]; decide) rfl _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hout]; · iexact Hout
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, ⟨%fo, Hout⟩, HS0, HS1, ⟨%f2, HS2⟩, ⟨%f3, HS3⟩, HS4⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [Hout]
  · unfold owns; iexists _; isplitr
    swap; · iexact Hout
    ipureintro; exact writes_result m c t h0 h2 hl ht fo y0 y1 y2 y3 y4 hy
  iexists y0, y1, (VS0_2.read (Elt F) (VS0_2.writes (Elt F) f2 (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3 (scores m c 0) (scores m c 1) (scores m c 2)).2.2.2.1)), (VS0_3.read (Elt F) (VS0_3.writes (Elt F) f3 (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3 (scores m c 0) (scores m c 1) (scores m c 2)).2.2.2.2.1)), (VS0_4.read (Elt F) (VS0_4.writes (Elt F) ((Memref.isWhole_whole cc0_scratch4).unread y4) (runC c t h0 h2 hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 y2 y3 (scores m c 0) (scores m c 1) (scores m c 2)).2.2.2.2.2.1))
  isplitr
  · ipureintro; exact holds_last m c t h0 h2 hl f2 f3 y0 y1 y2 y3 y4 _ _ _ hy (not_first t h0)
  isplitr [Hg]
  · isplitl [HS0]
    · iexact HS0
    isplitl [HS1]
    · iexact HS1
    isplitl [HS2]
    · unfold owns; iexists _; isplitr
      swap; · iexact HS2
      ipureintro; rfl
    isplitl [HS3]
    · unfold owns; iexists _; isplitr
      swap; · iexact HS3
      ipureintro; rfl
    unfold owns; iexists _; isplitr
    swap; · iexact HS4
    ipureintro; rfl
  iexact Hg

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What the body gives back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- What holds when a point begins. -/
theorem phi_start (c : Dev nD) (t : Fin cfg0.N) : (dats m 0 c).Φ t.castSucc = between m c t.val (Nat.le_of_lt t.isLt) := by
  dsimp only [dats]; exact Pipeline.Dat.Φ_castSucc (between m c) t

/-- A step from what is used of a state, the rest being kept. -/
theorem step_of {t : Fin cfg0.N} {c : Dev nD} {P A R Q S : sProp 𝕄}
    (h : A ⊢ wp frame (wpE (defs₀ (F := F)) Variants.none c none) Set.univ (bodyAt0 t) (fun _ => Q))
    (hP : P ⊢ iprop(A ∗ R)) (hQ : iprop(Q ∗ R) ⊢ S) :
    P ⊢ wp frame (wpE (defs₀ (F := F)) Variants.none c none) Set.univ (bodyAt0 t) (fun _ => S) :=
  hP.trans ((sep_mono_left h).trans ((wp_frame_r _ _ _).trans (wp_mono _ _ _ fun _ => hQ)))

/-- What the body is given, sorted: the inputs, the output's buffer, the state between points, what the core owes. -/
theorem given_sorted (c : Dev nD) (t : Fin cfg0.N) :
    given m c t ⊢ iprop(∃ d, (inputs m c t ∗ owns (c : Thread nD τ) (ms0_12 t) fullShare ((dats m 0 c).before 12 t d)
      ∗ between m c t.val (Nat.le_of_lt t.isLt)) ∗ (dats m 0 c).owesAt () t.castSucc) := by
  unfold given inputs
  simp only [before_0, before_1, before_2, before_3, before_4, before_5, before_6, before_7, before_8, before_9, before_10, before_11, phi_start]
  iintro ⟨HB, Ho, ⟨%z0, H0⟩, ⟨%z1, H1⟩, ⟨%z2, H2⟩, ⟨%z3, H3⟩, ⟨%z4, H4⟩, ⟨%z5, H5⟩, ⟨%z6, H6⟩, ⟨%z7, H7⟩, ⟨%z8, H8⟩, ⟨%z9, H9⟩, ⟨%z10, H10⟩, ⟨%z11, H11⟩, ⟨%z12, Hout⟩⟩
  iexists z12
  isplitr [Ho]
  · isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [Hout]; · iexact Hout
    iexact HB
  iexact Ho

/-- What the body gives back, put together. -/
theorem returned_sorted (c : Dev nD) (t : Fin cfg0.N) :
    iprop((inputs m c t ∗ (dats m 0 c).leavesExact 12 t ∗ between m c (t.val + 1) t.isLt) ∗ (dats m 0 c).owesAt () t.castSucc)
      ⊢ returned m c t := by
  unfold returned inputs
  simp only [leaves_0, leaves_1, leaves_2, leaves_3, leaves_4, leaves_5, leaves_6, leaves_7, leaves_8, leaves_9, leaves_10, leaves_11]
  rw [show (dats m 0 c).owesAt () t.succ = (dats m 0 c).owesAt () t.castSucc from rfl]
  rw [show (dats m 0 c).Φ t.succ = between m c (t.val + 1) t.isLt from rfl]
  iintro ⟨⟨⟨H0, H1, H2, H3, H4, H5, H6, H7, H8, H9, H10, H11⟩, Hout, HB⟩, Ho⟩
  isplitl [HB]; · iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hout

/-- The body at every point. -/
theorem sound_body (c : Dev nD) (t : Fin cfg0.N) :
    given m c t ⊢ wp frame (wpE (defs₀ (F := F)) Variants.none c none) Set.univ (bodyAt0 t) (fun _ => returned m c t) := by
  refine (given_sorted m c t).trans (exists_elim fun d => ?_)
  have idle : ∀ (hi : cfg0.idle 12 (grid0.coords t) = true) (hf : (cfg0.win 12).flush t = false),
      iprop((inputs m c t ∗ owns (c : Thread nD τ) (ms0_12 t) fullShare ((dats m 0 c).before 12 t d)
        ∗ between m c (t.val + 1) t.isLt) ∗ (dats m 0 c).owesAt () t.castSucc) ⊢ returned m c t := fun hi hf => by
    refine .trans ?_ (returned_sorted m c t)
    rw [Dat.leavesExact_idle (dats m 0 c) 12 t hi hf]
    iintro ⟨⟨HI, Hout, HB⟩, Ho⟩
    isplitr [Ho]
    · isplitl [HI]; · iexact HI
      isplitl [Hout]; · iexists d; iexact Hout
      iexact HB
    iexact Ho
  by_cases h0 : cond0_0 (grid0.coords t)
  · have h2 : ¬cond0_2 (grid0.coords t) := fun h2 => by
      have e := (hcond0_0 t).1 h0
      have e' := (hcond0_2 t).1 h2
      omega
    exact step_of (body_first m c t h0 h2 _) .rfl (idle (idleAt0_12_A t h0 (hcond0_1 t) h2) (noFlush0_12_A t h0 (hcond0_1 t) h2))
  · by_cases h2 : cond0_2 (grid0.coords t)
    · refine step_of (R := (dats m 0 c).owesAt () t.castSucc) (body_last m c t h0 h2) ?_ ?_
      · iintro ⟨⟨HI, Hout, HB⟩, Ho⟩
        isplitr [Ho]
        · isplitl [HI]; · iexact HI
          isplitl [Hout]; · iexists _; iexact Hout
          iexact HB
        iexact Ho
      · rw [← leaves_12 m c t h0 h2]
        exact returned_sorted m c t
    · exact step_of (body_middle m c t h0 h2 _) .rfl (idle (idleAt0_12_B t h0 (hcond0_1 t) h2) (noFlush0_12_B t h0 (hcond0_1 t) h2))

/-- The body of the launch at a point's buffers. -/
theorem body_row (t : Fin cfg0.N) : defs₀ (F := F) .tc cfg0.body (cfg0.bodyArgs t (cfg0.slots t)) = bodyAt0 t := by
  unfold defs₀; rw [Defs.onTc_tc]

/-- Every point keeps what holds between points. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is what holds before the first point. -/
theorem enters (c : Dev nD) : Pipeline.ΦA spec0 c ⊢ (dats m 0 c).Φ 0 := by
  rw [show (dats m 0 c).Φ 0 = between m c 0 (Nat.zero_le _) from rfl, PhiA0_eq]
  unfold between
  iintro ⟨⟨⟨%d0, HS0⟩, ⟨%d1, HS1⟩, ⟨%d2, HS2⟩, ⟨%d3, HS3⟩, ⟨%d4, HS4⟩⟩, Hg⟩
  iexists d0, d1, d2, d3, d4
  isplitr
  · ipureintro; exact ⟨fun h => absurd h (Nat.lt_irrefl 0), fun _ _ h => absurd h (Nat.not_lt_zero _)⟩
  isplitr [Hg]
  · isplitl [HS0]; · iexact HS0
    isplitl [HS1]; · iexact HS1
    isplitl [HS2]; · iexact HS2
    isplitl [HS3]; · iexact HS3
    iexact HS4
  iexact Hg

/-- After the last point the scratch is given back at whatever it holds. -/
theorem leaves (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, PhiA0_eq]
  unfold between
  iintro ⟨%d0, %d1, %d2, %d3, %d4, %hd, ⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
set_option maxHeartbeats 800000 in
/-- The launch: every run ends, with the arrays as the proof data and the closing line of the host give them, and every
    semaphore counter at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) ((θ_run defs _ _).mono (fun _ h => h.1) (run m ρ))

/-- The frame claim of the ideal program: every run ends with the arguments unchanged and the counters at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run m ρ))

end Cert.Attn

end
-- ==== Proof.Value.lean ====
/- What the run leaves in the result, and the blocks the points read, as entries of the arguments. -/
module

public import proofs.«01_k».proof.Proof.Body
public import Idealize.ShloMosaic.Lib.Pipeline.ValueKit
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-! ## The windows' blocks -/

/-- The first window moves down the features. -/
theorem index_0 : ∀ t : Fin cfg0.N, win0_0.index t = ![t.val, 0] := by decide +kernel
/-- The second window moves along the row of segment numbers. -/
theorem index_1 : ∀ t : Fin cfg0.N, win0_1.index t = ![0, t.val] := by decide +kernel

/-- The first window's block at a point: the point's rows of the features. -/
theorem block_0 (c : Dev nD) (t : Fin 4) (l : Fin 8192) (f : Fin 93) :
    iblk m c 0 (point t.val) (ix2 l f) = m ((c.tc : Thread nD τ).loc main_arg0) (ix2 (node t l) f) := by
  refine (congrFun (V_main_arg0 m c) _).trans (congrArg (m ((c.tc : Thread nD τ).loc main_arg0)) ?_)
  have e := index_0 (point t.val)
  have e0 : win0_0.index (point t.val) 0 = t.val := (congrFun e 0).trans (Nat.mod_eq_of_lt t.isLt)
  have e1 : win0_0.index (point t.val) 1 = 0 := congrFun e 1
  funext a
  match a with
  | ⟨0, _⟩ => exact Fin.ext (show win0_0.index (point t.val) 0 * 8192 + 1 * l.val = 8192 * t.val + l.val by omega)
  | ⟨1, _⟩ => exact Fin.ext (show win0_0.index (point t.val) 1 * 93 + 1 * f.val = f.val by omega)

/-- The second window's block at a point: the point's columns of the row of segment numbers. -/
theorem block_1 (c : Dev nD) (t : Fin 4) (l : Fin 8192) :
    iblk m c 1 (point t.val) (ix2 0 l) = V m c main_v0 (ix2 0 (node t l)) := by
  refine congrArg (V m c main_v0) ?_
  have e := index_1 (point t.val)
  have e0 : win0_1.index (point t.val) 0 = 0 := congrFun e 0
  have e1 : win0_1.index (point t.val) 1 = t.val := (congrFun e 1).trans (Nat.mod_eq_of_lt t.isLt)
  funext a
  match a with
  | ⟨0, _⟩ => exact Fin.ext (show win0_1.index (point t.val) 0 * 1 + 1 * 0 = 0 by omega)
  | ⟨1, _⟩ => exact Fin.ext (show win0_1.index (point t.val) 1 * 8192 + 1 * l.val = 8192 * t.val + l.val by omega)

/-- The other windows stay. -/
theorem index_zero : ∀ w : Fin cfg0.W, 2 ≤ w.val → ∀ (t : Fin cfg0.N) a, (cfg0.win w).index t a = 0 := by decide +kernel

/-- A block whose index is zero starts at the array's start. -/
theorem unmoved {i s x : ℕ} (h : i = 0) : i * s + 1 * x = x := by rw [h, Nat.zero_mul, Nat.zero_add, Nat.one_mul]

/-! Each of these windows shows its whole array. -/

theorem block_2 (c : Dev nD) (t : Fin cfg0.N) : iblk m c 2 t = V m c main_v0 :=
  funext fun x => congrArg (V m c main_v0) (funext fun a => Fin.ext (unmoved (index_zero 2 (by decide) t a)))

theorem block_3 (c : Dev nD) (t : Fin cfg0.N) : iblk m c 3 t = m ((c.tc : Thread nD τ).loc main_arg2) :=
  funext fun x => (congrArg (V m c main_arg2) (funext fun a => Fin.ext (unmoved (index_zero 3 (by decide) t a)))).trans (congrFun (V_main_arg2 m c) x)

theorem block_4 (c : Dev nD) (t : Fin cfg0.N) : iblk m c 4 t = m ((c.tc : Thread nD τ).loc main_arg3) :=
  funext fun x => (congrArg (V m c main_arg3) (funext fun a => Fin.ext (unmoved (index_zero 4 (by decide) t a)))).trans (congrFun (V_main_arg3 m c) x)

theorem block_5 (c : Dev nD) (t : Fin cfg0.N) : iblk m c 5 t = V m c main_v1 :=
  funext fun x => congrArg (V m c main_v1) (funext fun a => Fin.ext (unmoved (index_zero 5 (by decide) t a)))

theorem block_6 (c : Dev nD) (t : Fin cfg0.N) : iblk m c 6 t = m ((c.tc : Thread nD τ).loc main_arg5) :=
  funext fun x => (congrArg (V m c main_arg5) (funext fun a => Fin.ext (unmoved (index_zero 6 (by decide) t a)))).trans (congrFun (V_main_arg5 m c) x)

theorem block_7 (c : Dev nD) (t : Fin cfg0.N) : iblk m c 7 t = V m c main_v2 :=
  funext fun x => congrArg (V m c main_v2) (funext fun a => Fin.ext (unmoved (index_zero 7 (by decide) t a)))

theorem block_8 (c : Dev nD) (t : Fin cfg0.N) : iblk m c 8 t = m ((c.tc : Thread nD τ).loc main_arg7) :=
  funext fun x => (congrArg (V m c main_arg7) (funext fun a => Fin.ext (unmoved (index_zero 8 (by decide) t a)))).trans (congrFun (V_main_arg7 m c) x)

theorem block_9 (c : Dev nD) (t : Fin cfg0.N) : iblk m c 9 t = V m c main_v3 :=
  funext fun x => congrArg (V m c main_v3) (funext fun a => Fin.ext (unmoved (index_zero 9 (by decide) t a)))

theorem block_10 (c : Dev nD) (t : Fin cfg0.N) : iblk m c 10 t = m ((c.tc : Thread nD τ).loc main_arg9) :=
  funext fun x => (congrArg (V m c main_arg9) (funext fun a => Fin.ext (unmoved (index_zero 10 (by decide) t a)))).trans (congrFun (V_main_arg9 m c) x)

theorem block_11 (c : Dev nD) (t : Fin cfg0.N) : iblk m c 11 t = V m c main_v4 :=
  funext fun x => congrArg (V m c main_v4) (funext fun a => Fin.ext (unmoved (index_zero 11 (by decide) t a)))

/-! ## The arrays reshaped before the region -/

/-- A vector reshaped into a row reads the vector at the column. -/
theorem row_apply {α : Type} {n : ℕ} (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) := by
  refine shapeCast_apply x h _ _ ?_
  rw [Shape.rowMajor_val_one, Shape.rowMajor_val_two]
  exact ((congrArg (· + k.val) (Nat.zero_mul n)).trans (Nat.zero_add _)).symm

/-- A vector reshaped into a column reads the vector at the row. -/
theorem column_apply {α : Type} {n : ℕ} (x : (⟨1, ![n]⟩ : Shape).Idx → α) (h : (⟨1, ![n]⟩ : Shape).ShapeCasts ⟨2, ![n, 1]⟩) (k : Fin n) :
    shapeCast ⟨2, ![n, 1]⟩ x h (ix2 k 0) = x (ix1 k) := by
  refine shapeCast_apply x h _ _ ?_
  rw [Shape.rowMajor_val_one, Shape.rowMajor_val_two]
  exact (Nat.mul_one k.val).symm

/-- A row reshaped into a column reads the row at the column's row. -/
theorem turned_apply {α : Type} {n : ℕ} (x : (⟨2, ![1, n]⟩ : Shape).Idx → α) (h : (⟨2, ![1, n]⟩ : Shape).ShapeCasts ⟨2, ![n, 1]⟩) (k : Fin n) :
    shapeCast ⟨2, ![n, 1]⟩ x h (ix2 k 0) = x (ix2 0 k) := by
  refine shapeCast_apply x h _ _ ?_
  rw [Shape.rowMajor_val_two, Shape.rowMajor_val_two]
  exact ((congrArg (· + k.val) (Nat.zero_mul n)).trans (Nat.zero_add _)).trans (Nat.mul_one k.val).symm

/-- What the host operations leave in the five reshaped arrays. -/
theorem reshaped (c : Dev nD) :
    V m c main_v0 = shapeCast S1x32768 (m ((c.tc : Thread nD τ).loc main_arg1)) shapeCasts_S32768_S1x32768
      ∧ V m c main_v1 = shapeCast S1x150 (m ((c.tc : Thread nD τ).loc main_arg4)) shapeCasts_S150_S1x150
      ∧ V m c main_v2 = shapeCast S1x150 (m ((c.tc : Thread nD τ).loc main_arg6)) shapeCasts_S150_S1x150
      ∧ V m c main_v3 = shapeCast S150x1 (m ((c.tc : Thread nD τ).loc main_arg8)) shapeCasts_S150_S150x1
      ∧ V m c main_v4 = shapeCast S1x1 (m ((c.tc : Thread nD τ).loc main_arg10)) shapeCasts_S1_S1x1 := by
  refine ⟨?_, ?_, ?_, ?_, ?_⟩
  all_goals
    show StableHlo.after hostOps0 _ _ = _
    after_results
    rfl

/-- The row of segment numbers. -/
theorem row_ids (c : Dev nD) (n : Fin 32768) : V m c main_v0 (ix2 0 n) = m ((c.tc : Thread nD τ).loc main_arg1) (ix1 n) := by
  rw [(reshaped m c).1]; exact row_apply _ _ n

/-- The row of the first layer's bias. -/
theorem row_latent (c : Dev nD) (k : Fin 150) : V m c main_v1 (ix2 0 k) = m ((c.tc : Thread nD τ).loc main_arg4) (ix1 k) := by
  rw [(reshaped m c).2.1]; exact row_apply _ _ k

/-- The row of the second layer's bias. -/
theorem row_features (c : Dev nD) (k : Fin 150) : V m c main_v2 (ix2 0 k) = m ((c.tc : Thread nD τ).loc main_arg6) (ix1 k) := by
  rw [(reshaped m c).2.2.1]; exact row_apply _ _ k

/-- The column of the hidden layer's bias. -/
theorem column_hidden (c : Dev nD) (h : Fin 150) : V m c main_v3 (ix2 h 0) = m ((c.tc : Thread nD τ).loc main_arg8) (ix1 h) := by
  rw [(reshaped m c).2.2.2.1]; exact column_apply _ _ h

/-- The last layer's bias. -/
theorem entry_last (c : Dev nD) : V m c main_v4 (ix2 0 0) = m ((c.tc : Thread nD τ).loc main_arg10) (ix1 0) := by
  rw [(reshaped m c).2.2.2.2]; exact row_apply _ _ 0

/-! ## The result -/

/-- The array the region writes ends at the row of results. -/
theorem final (c : Dev nD) : (dats m 0 c).arrAt 12 cfg0.N = result m c := by
  refine (dats m 0 c).arrAt_eq_of_after_last 12 (point 3) (by decide +kernel) _ fun j => ?_
  rw [after_12]
  blk_simp
  rfl

/-- The result ends at the row of results, as a column. -/
theorem tail_result (c : Dev nD) (n : Fin 32768) :
    Pipeline.afterTail₀ cfgs (dats m) 0 (V0 m) [hostOps1] c main_v6 (ix2 n 0) = result m c (ix2 0 n) := by
  have e : Pipeline.afterTail₀ cfgs (dats m) 0 (V0 m) [hostOps1] c main_v6
      = shapeCast S32768x1 (result m c) shapeCasts_S1x32768_S32768x1 := by
    rw [← final m c, ← (dats m 0 c).withArrays_arrAt sharedIn0 (V0 m c) (A_eq m c) 12]
    show StableHlo.after hostOps1 _ _ = _
    after_results
    rfl
  rw [e]
  exact turned_apply _ _ n

/-- Every run ends with the result at the row of results. -/
theorem ends : θ_run defs (onTc (τ := τ) (main (F := F))) ⟨m, fun _ => 0, ρ⟩ (fun r => ∀ c : Dev nD,
      ∀ n : Fin 32768, r.2.mem ((c.tc : Thread nD τ).loc main_v6) (ix2 n 0) = result m c (ix2 0 n)) :=
  (θ_run defs _ _).mono (fun _ h c n =>
    (congrFun ((h.1 c).2 main_v6 (Pipeline.mem_restRefs_of main_v6 (by decide) (by decide))) (ix2 n 0)).trans (tail_result m c n)) (run m ρ)

end Cert.Attn

end
-- ==== Proof.Payloads.lean ====
/- The kernel's arithmetic over the extended reals, each vector it forms read at an index. -/
module

public import proofs.«01_k».proof.Proof.Gen.KernelIdeal.Skeleton
public import proofs.«01_k».proof.Proof.Numbers
public import Idealize.ShloMosaic.Lib.ReduceAll
public import Idealize.ShloMosaic.Lib.Pointwise
public import Idealize.ShloMosaic.Lib.Routing.OpsSet
public import Idealize.ShloMosaic.Lib.Decide

@[expose] public section

set_option maxRecDepth 16384

noncomputable section

namespace Cert.Attn

open Cert.KernelIdeal Cert.KernelIdeal.Gen
open Idealize.ShloMosaic

/-! ## The segment mask -/

/-- Two segment numbers compared as words. -/
theorem same_segment : ∀ p b : Fin 16, IntOp.cmpi .eq (BitVec.ofNat 32 p.val) (BitVec.ofNat 32 b.val) = if p = b then 1#1 else 0#1 := by
  decide

/-- Row `b` of the mask marks the nodes of segment `b`. -/
theorem mask_apply (ids : Vec Ideal S1x8192 .i32) (l : Fin 8192) (p b : Fin 16)
    (h : ids (ix2 0 l) = BitVec.ofNat 32 p.val) :
    k0_pay11 (F := Ideal) ids (ix2 b l) = if p = b then 1#1 else 0#1 := by
  unfold k0_pay11
  pointwise
  rw [h]
  exact same_segment p b

/-- A mask's bit as a number. -/
theorem mask_real (p b : Fin 16) :
    (FloatOps.sitofp (F := Ideal) .f32 (BitVec.setWidth 32 (if p = b then 1#1 else 0#1)) : EReal) = if p = b then 1 else 0 := by
  show (((BitVec.setWidth 32 (if p = b then 1#1 else 0#1)).toInt : ℝ) : EReal) = _
  by_cases h : p = b
  · rw [if_pos h, if_pos h]; norm_num
  · rw [if_neg h, if_neg h]; norm_num

/-! ## The scores -/

/-- The features' weights, folded through the second layer. -/
theorem weights_apply (W1 : Vec Ideal S300x150 .f32) (W : Vec Ideal S93x150 .f32) (h : Fin 150) (f : Fin 93) :
    k0_pay8 W1 W (ix2 h f) = ∑ k : Fin 150, W1 (ix2 ⟨150 + k.val, by omega⟩ h) * W (ix2 f k) := by
  unfold k0_pay8 k0_pay7
  pointwise

/-- The segments' share of the hidden units. -/
theorem table_apply (W1 : Vec Ideal S300x150 .f32) (sm : Vec Ideal S16x500 .f32) (U : Vec Ideal S500x150 .f32)
    (c1 c2 : Vec Ideal S1x150 .f32) (b1 : Vec Ideal S150x1 .f32) (h : Fin 150) (b : Fin 16) :
    k0_pay9 W1 sm U c1 c2 b1 (ix2 h b)
      = ((∑ k : Fin 150, W1 (ix2 ⟨k.val, by omega⟩ h) * ((∑ j : Fin 500, sm (ix2 b j) * U (ix2 j k)) + c1 (ix2 0 k)))
          + ∑ k : Fin 150, W1 (ix2 ⟨150 + k.val, by omega⟩ h) * c2 (ix2 0 k)) + b1 (ix2 h 0) := by
  unfold k0_pay9 k0_pay7
  pointwise

/-- A node's score. -/
theorem score_of (ids : Vec Ideal S1x8192 .i32) (w : Vec Ideal S150x93 .f32) (x : Vec Ideal S8192x93 .f32)
    (ct : Vec Ideal S150x16 .f32) (W2 : Vec Ideal S150x1 .f32) (b2 : Vec Ideal S1x1 .f32) (l : Fin 8192) (p : Fin 16)
    (h : ids (ix2 0 l) = BitVec.ofNat 32 p.val) :
    k0_pay12 ids w x ct W2 b2 (ix2 0 l)
      = (∑ h : Fin 150, Ideal.tanh ((∑ f : Fin 93, w (ix2 h f) * x (ix2 l f)) + ct (ix2 h p)) * W2 (ix2 h 0)) + b2 (ix2 0 0) := by
  unfold k0_pay12
  pointwise
  simp only [mask_apply ids l p _ h, mask_real, sum_mul_ite]

/-- The carried maximum takes in the block's maximum of each segment. -/
theorem blockMax_apply (ids : Vec Ideal S1x8192 .i32) (w : Vec Ideal S150x93 .f32) (x : Vec Ideal S8192x93 .f32)
    (ct : Vec Ideal S150x16 .f32) (W2 : Vec Ideal S150x1 .f32) (b2 : Vec Ideal S1x1 .f32) (mx : Vec Ideal S16x1 .f32) (p : Fin 8192 → Fin 16)
    (h : ∀ l, ids (ix2 0 l) = BitVec.ofNat 32 (p l).val) (b : Fin 16) :
    k0_pay2 (k0_pay14 ids w x ct W2 b2) mx (ix2 b 0)
      = max (mx (ix2 b 0)) (Finset.univ.fold max ⊥ fun l => if p l = b then k0_pay12 ids w x ct W2 b2 (ix2 0 l) else Ideal.ofBits .f32 0xF149F2CA#32) := by
  unfold k0_pay2 k0_pay14
  generalize k0_pay12 ids w x ct W2 b2 = e
  pointwise
  rw [ofBits_negInf]
  refine congrArg _ (Finset.fold_congr fun l _ => ?_)
  rw [mask_apply ids l (p l) b (h l)]
  by_cases hb : p l = b
  · rw [if_pos hb, if_pos hb, ValueIdx.select_one]
  · rw [if_neg hb, if_neg hb, ValueIdx.select_zero]

/-- The carried sum takes in the block's exponentials of each segment. -/
theorem blockSum_apply (ids : Vec Ideal S1x8192 .i32) (w : Vec Ideal S150x93 .f32) (x : Vec Ideal S8192x93 .f32)
    (ct : Vec Ideal S150x16 .f32) (W2 : Vec Ideal S150x1 .f32) (b2 : Vec Ideal S1x1 .f32) (s : Vec Ideal S16x1 .f32) (p : Fin 8192 → Fin 16)
    (h : ∀ l, ids (ix2 0 l) = BitVec.ofNat 32 (p l).val) (b : Fin 16) :
    k0_pay3 (k0_pay15 ids w x ct W2 b2) s (ix2 b 0)
      = s (ix2 b 0) + ∑ l, if p l = b then Ideal.exp (k0_pay12 ids w x ct W2 b2 (ix2 0 l)) else 0 := by
  unfold k0_pay3 k0_pay15
  generalize k0_pay12 ids w x ct W2 b2 = e
  pointwise
  refine congrArg _ (Finset.sum_congr rfl fun l _ => ?_)
  rw [mask_apply ids l (p l) b (h l)]
  by_cases hb : p l = b
  · rw [if_pos hb, if_pos hb, ValueIdx.select_one]
  · rw [if_neg hb, if_neg hb, ValueIdx.select_zero]

/-- The maxima before any block. -/
theorem maxima_start (b : Fin 16) : (k0_pay10 (F := Ideal)) (ix2 b 0) = Ideal.ofBits .f32 0xF149F2CA#32 := by
  unfold k0_pay10
  pointwise

/-- The sums before any block. -/
theorem sums_start (b : Fin 16) : (k0_pay1 (F := Ideal)) (ix2 b 0) = 0 := by
  unfold k0_pay1
  pointwise

/-- A segment's factor. -/
theorem factor_apply (mx s : Vec Ideal S16x1 .f32) (b : Fin 16) :
    k0_pay16 mx s (ix2 b 0) = factor (mx (ix2 b 0)) (s (ix2 b 0)) := by
  unfold k0_pay16 factor
  pointwise

/-- A node's weight, from its score and its segment's factor. -/
theorem weight_apply (mx s : Vec Ideal S16x1 .f32) (ids : Vec Ideal S1x8192 .i32) (e : Vec Ideal S1x8192 .f32) (l : Fin 8192) (p : Fin 16)
    (h : ids (ix2 0 l) = BitVec.ofNat 32 p.val) :
    k0_pay17 mx s ids e (ix2 0 l) = Ideal.exp (e (ix2 0 l)) * factor (mx (ix2 p 0)) (s (ix2 p 0)) := by
  unfold k0_pay17
  rw [← factor_apply]
  generalize k0_pay16 mx s = g
  pointwise
  have hm : ∀ b : Fin 16, IntOp.cmpi .eq (ids (ix2 0 l)) (BitVec.ofNat 32 b.val) = if p = b then 1#1 else 0#1 := fun b => by
    rw [h]
    exact same_segment p b
  simp only [hm, mask_real, sum_mul_ite]

end Cert.Attn

end
-- ==== Proof.Ref.lean ====
/- The reference at a node: each of its operations that gathers, reduces or scatters is read at an index, and the
   whole is the softmax of the node's score within its segment. -/
module

public import proofs.«01_k».proof.Proof.Gen.ReferenceIdeal.Read
public import proofs.«01_k».proof.Proof.Numbers
public import Idealize.ShloMosaic.Lib.ReduceAll
public import Idealize.ShloMosaic.Lib.WordCmp
public import Idealize.ShloMosaic.Lib.Pointwise
public import Idealize.ShloMosaic.Lib.Routing.OpsSet
public import Idealize.ShloMosaic.Lib.Decide

@[expose] public section

set_option maxRecDepth 16384

noncomputable section

namespace Cert.Attn

open Idealize.ShloMosaic Idealize.ShloMosaic.StableHlo

/-! ## The score of a node -/

/-- Segment `b`'s latent vector through the first layer. -/
def latent (x2 : (⟨2, ![16, 500]⟩ : Shape).Idx → EReal) (x3 : (⟨2, ![500, 150]⟩ : Shape).Idx → EReal)
    (x4 : (⟨1, ![150]⟩ : Shape).Idx → EReal) (b : Fin 16) (k : Fin 150) : EReal :=
  (∑ j : Fin 500, x2 (ix2 b j) * x3 (ix2 j k)) + x4 (ix1 k)

/-- Node `n`'s features through the second layer. -/
def features (x0 : (⟨2, ![32768, 93]⟩ : Shape).Idx → EReal) (x5 : (⟨2, ![93, 150]⟩ : Shape).Idx → EReal)
    (x6 : (⟨1, ![150]⟩ : Shape).Idx → EReal) (n : Fin 32768) (k : Fin 150) : EReal :=
  (∑ f : Fin 93, x0 (ix2 n f) * x5 (ix2 f k)) + x6 (ix1 k)

/-- The input of the hyperbolic tangent at hidden unit `h`, from the two halves `u`, `v` of the joined row. -/
def unit (x7 : (⟨2, ![300, 150]⟩ : Shape).Idx → EReal) (x8 : (⟨1, ![150]⟩ : Shape).Idx → EReal) (u v : Fin 150 → EReal)
    (h : Fin 150) : EReal :=
  ((∑ k : Fin 150, u k * x7 (ix2 ⟨k.val, by omega⟩ h)) + ∑ k : Fin 150, v k * x7 (ix2 ⟨150 + k.val, by omega⟩ h)) + x8 (ix1 h)

/-- A score from its hidden units. -/
def score (x9 : (⟨2, ![150, 1]⟩ : Shape).Idx → EReal) (x10 : (⟨1, ![1]⟩ : Shape).Idx → EReal) (z : Fin 150 → EReal) : EReal :=
  (∑ h : Fin 150, Ideal.tanh (z h) * x9 (ix2 h 0)) + x10 (ix1 0)

/-! ## A scatter of many updates into few entries -/

open ValueIdx in
/-- Update `i` of a scatter of `N` scalars into a vector of `M`, one index each, lands at entry `x` exactly when its
    index word, read signed, is `x`. -/
theorem lands_iff {N M : ℕ} (d : ScatterDims (⟨1, ![M]⟩ : Shape) (⟨2, ![N, 1]⟩ : Shape) (⟨1, ![N]⟩ : Shape))
    (hiw : d.insertedWindowDims = [0]) (hsd : d.scatterDimsToOperandDims = [0]) (hivd : d.indexVectorDim = 1)
    (idx : IVec (⟨2, ![N, 1]⟩ : Shape) 32) (i : Fin N) (x : Fin M) :
    d.resultIdx? (ValueIdx.ix1 i) idx = some (ValueIdx.ix1 x) ↔ (idx (ValueIdx.ix2 i (0 : Fin 1))).toInt = (x.val : ℤ) := by
  have mem0 : (0 : Fin 1) ∈ d.scatterDimsToOperandDims := hsd ▸ List.mem_singleton.2 rfl
  have nowin : d.window (ValueIdx.ix1 i) 0 = 0 := by
    rw [ScatterDims.window, dif_neg]
    intro h
    exact (of_decide_eq_true (List.mem_filter.1 h).2) (hiw ▸ List.mem_singleton.2 rfl)
  have begins : d.start (ValueIdx.ix1 i) idx 0 = (idx (ValueIdx.ix2 i (0 : Fin 1))).toInt := by
    rw [ScatterDims.start, dif_pos mem0]
    refine congrArg (fun j => (idx j).toInt) (funext fun a => Fin.ext ?_)
    match a with
    | ⟨0, _⟩ =>
      rw [ScatterDims.siIdx, dif_neg (by rw [hivd]; exact Nat.zero_ne_one)]
      have only : ∀ z : Fin 1, (ValueIdx.ix1 i z).val = i.val := fun z => by rw [Subsingleton.elim z 0]
      simp only [ScatterDims.siCoord, Fin.val_cast]
      exact only _
    | ⟨1, _⟩ => exact Nat.lt_one_iff.1 (Fin.isLt _)
  constructor
  · intro h
    rw [ScatterDims.resultIdx?] at h
    split at h
    · next hin =>
      have hv : (d.start (ValueIdx.ix1 i) idx 0 + (d.window (ValueIdx.ix1 i) 0 : ℤ)).toNat = x.val :=
        congrArg Fin.val (congrFun (Option.some.inj h) 0)
      have h0 := hin 0
      rw [begins, nowin] at hv h0
      omega
    · exact absurd h (by simp)
  · intro h
    have hx := x.isLt
    rw [ScatterDims.resultIdx?, dif_pos]
    · refine congrArg some (funext fun a => Fin.ext ?_)
      match a with
      | ⟨0, _⟩ =>
        show (d.start (ValueIdx.ix1 i) idx 0 + (d.window (ValueIdx.ix1 i) 0 : ℤ)).toNat = x.val
        rw [begins, nowin]
        omega
    · intro a
      match a with
      | ⟨0, _⟩ =>
        show 0 ≤ d.start (ValueIdx.ix1 i) idx 0 + (d.window (ValueIdx.ix1 i) 0 : ℤ)
          ∧ d.start (ValueIdx.ix1 i) idx 0 + (d.window (ValueIdx.ix1 i) 0 : ℤ) < (M : ℤ)
        rw [begins, nowin]
        omega

/-! ## The reference's operations -/

section reference

open Cert.ReferenceIdeal Cert.ReferenceIdeal.Gen Cert.ReferenceIdeal.Read

variable (x0 : (⟨S32768x93, .f32⟩ : BufTy).Contents (Elt Ideal)) (x1 : (⟨S32768, .i32⟩ : BufTy).Contents (Elt Ideal))
  (x2 : (⟨S16x500, .f32⟩ : BufTy).Contents (Elt Ideal)) (x3 : (⟨S500x150, .f32⟩ : BufTy).Contents (Elt Ideal))
  (x4 : (⟨S150, .f32⟩ : BufTy).Contents (Elt Ideal)) (x5 : (⟨S93x150, .f32⟩ : BufTy).Contents (Elt Ideal))
  (x6 : (⟨S150, .f32⟩ : BufTy).Contents (Elt Ideal)) (x7 : (⟨S300x150, .f32⟩ : BufTy).Contents (Elt Ideal))
  (x8 : (⟨S150, .f32⟩ : BufTy).Contents (Elt Ideal)) (x9 : (⟨S150x1, .f32⟩ : BufTy).Contents (Elt Ideal))
  (x10 : (⟨S1, .f32⟩ : BufTy).Contents (Elt Ideal)) (id : Fin 32768 → Fin 16)

/-- A segment number is not negative, so a take reads it as it is. -/
theorem take_word (hid : ∀ n, x1 (ix1 n) = BitVec.ofNat 32 (id n).val) (i : S32768x1.Idx) :
    val_main_call0_v5 (F := Ideal) x1 i = BitVec.ofNat 32 (id (i 0)).val := by
  rw [val_main_call0_v5_apply, val_main_call0_v4_apply, val_main_call0_v1_apply]
  have e : x1 (idx_main_call0_v5 i) = BitVec.ofNat 32 (id (i 0)).val := (congrArg x1 (funext fun a => by
    match a with | ⟨0, _⟩ => rfl)).trans (hid (i 0))
  rw [e]
  show Scalar.select (IntOp.cmpi .slt (BitVec.ofNat 32 (id (i 0)).val) 0#32) _ _ = _
  generalize id (i 0) = b
  have : IntOp.cmpi .slt (BitVec.ofNat 32 b.val) 0#32 = 0#1 := by revert b; decide
  rw [this]
  rfl

/-- A segment number is in range, so a take's entry is the one it reads. -/
theorem take_bit (hid : ∀ n, x1 (ix1 n) = BitVec.ofNat 32 (id n).val) (j : S32768.Idx) :
    val_main_call0_v12 (F := Ideal) x1 j = 1#1 := by
  unfold val_main_call0_v12
  refine Host.reduce_andi_one _ _ _ _ _ rfl fun i => ?_
  rw [val_main_call0_v11_apply, val_main_call0_v7_apply, val_main_call0_v10_apply, take_word x1 id hid i]
  show IntOp.andi (IntOp.cmpi .sge (BitVec.ofNat 32 (id (i 0)).val) 0#32) (IntOp.cmpi .sle (BitVec.ofNat 32 (id (i 0)).val) 15#32) = 1#1
  generalize id (i 0) = b
  revert b; decide

/-- The first layer at an entry. -/
theorem latent_apply (b : Fin 16) (k : Fin 150) : val_main_v3 (F := Ideal) x2 x3 x4 (ix2 b k) = latent x2 x3 x4 b k := by
  rw [val_main_v3_apply, val_main_v0_apply, val_main_v2_apply, val_main_v1_apply]
  refine congrArg₂ (· + ·) (Finset.sum_congr rfl fun j _ => congrArg₂ (· * ·) (congrArg x2 ?_) (congrArg x3 ?_)) (congrArg x4 ?_)
  all_goals funext a; fin_cases a <;> rfl

/-- The second layer at an entry. -/
theorem features_apply (n : Fin 32768) (k : Fin 150) :
    val_main_v7 (F := Ideal) x0 x5 x6 (ix2 n k) = features x0 x5 x6 n k := by
  rw [val_main_v7_apply, val_main_v4_apply, val_main_v6_apply, val_main_v5_apply]
  refine congrArg₂ (· + ·) (Finset.sum_congr rfl fun j _ => congrArg₂ (· * ·) (congrArg x0 ?_) (congrArg x5 ?_)) (congrArg x6 ?_)
  all_goals funext a; fin_cases a <;> rfl

/-- The rows of the latent layer taken by segment. -/
theorem taken_apply (hid : ∀ n, x1 (ix1 n) = BitVec.ofNat 32 (id n).val) (n : Fin 32768) (k : Fin 150) :
    val_main_v8 (F := Ideal) x1 x2 x3 x4 (ix2 n k) = latent x2 x3 x4 (id n) k := by
  rw [val_main_v8_apply, val_main_call0_v14_apply, take_bit x1 id hid, ValueIdx.select_one, ← latent_apply]
  exact Routing.gather_row gather_S16x150_S32768x1_S32768x150_1_0_n_n_0_1_1150 rfl rfl rfl rfl rfl
    (val_main_v3 (F := Ideal) x2 x3 x4) (val_main_call0_v5 (F := Ideal) x1) n k (id n) (take_word x1 id hid _) (by norm_num)

/-- The first half of a joined row is the taken row. -/
theorem joined_left (n : Fin 32768) (k : Fin 150) :
    val_main_v9 (F := Ideal) x0 x1 x2 x3 x4 x5 x6 (ix2 n ⟨k.val, by omega⟩) = val_main_v8 (F := Ideal) x1 x2 x3 x4 (ix2 n k) := by
  unfold val_main_v9
  generalize val_main_v8 (F := Ideal) x1 x2 x3 x4 = a
  generalize val_main_v7 (F := Ideal) x0 x5 x6 = b
  pointwise

/-- The second half of a joined row is the node's features. -/
theorem joined_right (n : Fin 32768) (k : Fin 150) :
    val_main_v9 (F := Ideal) x0 x1 x2 x3 x4 x5 x6 (ix2 n ⟨150 + k.val, by omega⟩) = val_main_v7 (F := Ideal) x0 x5 x6 (ix2 n k) := by
  unfold val_main_v9
  generalize val_main_v8 (F := Ideal) x1 x2 x3 x4 = a
  generalize val_main_v7 (F := Ideal) x0 x5 x6 = b
  pointwise

/-- The reference's score of a node. -/
theorem score_apply (hid : ∀ n, x1 (ix1 n) = BitVec.ofNat 32 (id n).val) (n : Fin 32768) :
    val_main_v19 (F := Ideal) x0 x1 x2 x3 x4 x5 x6 x7 x8 x9 x10 (ix1 n)
      = score x9 x10 (unit x7 x8 (latent x2 x3 x4 (id n)) (features x0 x5 x6 n)) := by
  have hz : ∀ h : Fin 150, val_main_v13 (F := Ideal) x0 x1 x2 x3 x4 x5 x6 x7 x8 (ix2 n h)
      = unit x7 x8 (latent x2 x3 x4 (id n)) (features x0 x5 x6 n) h := fun h => by
    rw [val_main_v13_apply, val_main_v10_apply, val_main_v12_apply, val_main_v11_apply]
    refine congrArg₂ (· + ·) ?_ (congrArg x8 (by funext a; fin_cases a; rfl))
    refine (Fin.sum_univ_add (a := 150) (b := 150) _).trans (congrArg₂ (· + ·) ?_ ?_)
    · refine Finset.sum_congr rfl fun k _ => ?_
      rw [← taken_apply x1 x2 x3 x4 id hid, ← joined_left x0 x1 x2 x3 x4 x5 x6]
      refine congrArg₂ (· * ·) (congrArg _ ?_) (congrArg x7 ?_)
      all_goals funext a; fin_cases a <;> rfl
    · refine Finset.sum_congr rfl fun k _ => ?_
      rw [← features_apply, ← joined_right x0 x1 x2 x3 x4 x5 x6]
      refine congrArg₂ (· * ·) (congrArg _ ?_) (congrArg x7 ?_)
      all_goals funext a; fin_cases a <;> rfl
  rw [val_main_v19_apply, val_main_v18_apply, val_main_v15_apply, val_main_v17_apply, val_main_v16_apply]
  refine congrArg₂ (· + ·) (Finset.sum_congr rfl fun h _ => ?_) (congrArg x10 (by funext a; fin_cases a; exact Subsingleton.elim (α := Fin 1) _ _))
  refine congrArg₂ (· * ·) ?_ (congrArg x9 ?_)
  · have hi : lidx_main_v15 (idx_main_v19 (ix1 n)) h = ix2 n h := by
      funext a; fin_cases a
      · exact Fin.ext (Nat.div_one _)
      · rfl
    rw [hi, val_main_v14_apply, hz]
    rfl
  · funext a; fin_cases a
    · rfl
    · exact Subsingleton.elim (α := Fin 1) _ _

/-- A maximum along the nodes, of entries that are `⊥` outside the segment. -/
theorem fold_apply (v : (⟨S16x32768, .f32⟩ : BufTy).Contents (Elt Ideal)) (z : (⟨S_, .f32⟩ : BufTy).Contents (Elt Ideal))
    (hz : z (Shape.Idx.first h_S_) = (⊥ : EReal)) (e : Fin 32768 → EReal) (b : Fin 16)
    (hv : ∀ n : Fin 32768, v (ix2 b n) = if id n = b then e n else ⊥) :
    Host.reduce (FloatOps.maximumf (F := Ideal) (φ := .f32)) v z reducesTo_S16x32768_S16_d1 h_S_ (ix1 b) = segMax e id b := by
  rw [Host.reduce_eq_fold, hz]
  refine (reducesTo_S16x32768_S16_d1.fold_fiber_r2_a1 (ix1 b) (max : EReal → EReal → EReal) ⊥ v).trans ?_
  exact Finset.fold_congr fun n _ => hv n

/-- The segment maxima. -/
theorem max_apply (hid : ∀ n, x1 (ix1 n) = BitVec.ofNat 32 (id n).val) (b : Fin 16) :
    val_main_v28 (F := Ideal) x0 x1 x2 x3 x4 x5 x6 x7 x8 x9 x10 (ix1 b)
      = segMax (fun n => val_main_v19 (F := Ideal) x0 x1 x2 x3 x4 x5 x6 x7 x8 x9 x10 (ix1 n)) id b := by
  have hv : ∀ n : Fin 32768, val_main_v27 (F := Ideal) x0 x1 x2 x3 x4 x5 x6 x7 x8 x9 x10 (ix2 b n)
      = if id n = b then val_main_v19 (F := Ideal) x0 x1 x2 x3 x4 x5 x6 x7 x8 x9 x10 (ix1 n) else ⊥ := fun n => by
    rw [val_main_v27_apply, val_main_v25_apply, val_main_v23_apply, val_main_v20_apply, val_main_v24_apply, val_main_v22_apply,
      val_main_v21_apply, val_main_call1_v1_apply, val_main_v26_apply, val_main_call1_v2_apply]
    generalize val_main_v19 (F := Ideal) x0 x1 x2 x3 x4 x5 x6 x7 x8 x9 x10 = e
    have e1 : x1 (idx_main_v20 (idx_main_v23 (ix2 b n))) = BitVec.ofNat 32 (id n).val :=
      (congrArg x1 (funext fun a => by fin_cases a; rfl)).trans (hid n)
    rw [e1]
    show Scalar.select (IntOp.cmpi .eq (BitVec.ofNat 32 (id n).val) (BitVec.ofNat 32 b.val)) _ (Ideal.ofBits .f32 0xFF800000#32) = _
    rw [ofBits_negInf]
    have hc : ∀ p q : Fin 16, IntOp.cmpi .eq (BitVec.ofNat 32 p.val) (BitVec.ofNat 32 q.val) = if p = q then 1#1 else 0#1 := by decide
    rw [hc]
    by_cases h : id n = b
    · rw [if_pos h, if_pos h, ValueIdx.select_one]
      exact congrArg e (funext fun a => by fin_cases a; rfl)
    · rw [if_neg h, if_neg h, ValueIdx.select_zero]
  exact fold_apply id _ _ ofBits_negInf _ b hv

/-- The maxima taken by segment. -/
theorem takenMax_apply (hid : ∀ n, x1 (ix1 n) = BitVec.ofNat 32 (id n).val) (n : Fin 32768) :
    val_main_v29 (F := Ideal) x0 x1 x2 x3 x4 x5 x6 x7 x8 x9 x10 (ix1 n)
      = segMax (fun n => val_main_v19 (F := Ideal) x0 x1 x2 x3 x4 x5 x6 x7 x8 x9 x10 (ix1 n)) id (id n) := by
  rw [val_main_v29_apply, ← max_apply x0 x1 x2 x3 x4 x5 x6 x7 x8 x9 x10 id hid]
  rw [show val_main_call2_v12 (F := Ideal) x1 (ix1 n) = 1#1 from take_bit x1 id hid _, ValueIdx.select_one]
  exact Routing.gather_take1 gather_S16_S32768x1_S32768_n_0_n_n_0_1_1 rfl rfl rfl rfl
    (val_main_v28 (F := Ideal) x0 x1 x2 x3 x4 x5 x6 x7 x8 x9 x10) (val_main_call2_v5 (F := Ideal) x1) n (id n)
    (take_word x1 id hid _) (by norm_num)

/-- The segment sums. -/
theorem sum_apply (hid : ∀ n, x1 (ix1 n) = BitVec.ofNat 32 (id n).val) (b : Fin 16) :
    val_main_v34 (F := Ideal) x0 x1 x2 x3 x4 x5 x6 x7 x8 x9 x10 (ix1 b)
      = segSum (fun n => val_main_v31 (F := Ideal) x0 x1 x2 x3 x4 x5 x6 x7 x8 x9 x10 (ix1 n)) id b := by
  classical
  unfold val_main_v34
  generalize val_main_v31 (F := Ideal) x0 x1 x2 x3 x4 x5 x6 x7 x8 x9 x10 = e
  show Ideal.hostScatterAdd scatter_S16_S32768x1_S32768_n_0_0_1 (val_main_v32 (F := Ideal)) (val_main_v33 (F := Ideal) x1) e (ix1 b) = _
  have hw : ∀ n : Fin 32768, val_main_v33 (F := Ideal) x1 (ix2 n 0) = BitVec.ofNat 32 (id n).val := fun n => by
    rw [val_main_v33_apply]
    exact (congrArg x1 (funext fun a => by fin_cases a; rfl)).trans (hid n)
  have hl : ∀ n : Fin 32768, scatter_S16_S32768x1_S32768_n_0_0_1.resultIdx? (ix1 n) (val_main_v33 (F := Ideal) x1) = some (ix1 b) ↔ id n = b := fun n => by
    refine (lands_iff scatter_S16_S32768x1_S32768_n_0_0_1 rfl rfl rfl (val_main_v33 (F := Ideal) x1) n b).trans ?_
    rw [show val_main_v33 (F := Ideal) x1 (ValueIdx.ix2 n 0) = BitVec.ofNat 32 (id n).val from hw n]
    generalize id n = p
    revert p b; decide
  have h0 : val_main_v32 (F := Ideal) (ix1 b) = 0 := Ideal.ofBits_zero_f32
  rw [Ideal.hostScatterAdd, h0, zero_add, segSum, Finset.sum_filter, sum_idx1]
  exact Finset.sum_congr rfl fun n _ => if_congr (hl n) rfl rfl

/-- The sums taken by segment. -/
theorem takenSum_apply (hid : ∀ n, x1 (ix1 n) = BitVec.ofNat 32 (id n).val) (n : Fin 32768) :
    val_main_v35 (F := Ideal) x0 x1 x2 x3 x4 x5 x6 x7 x8 x9 x10 (ix1 n)
      = segSum (fun n => val_main_v31 (F := Ideal) x0 x1 x2 x3 x4 x5 x6 x7 x8 x9 x10 (ix1 n)) id (id n) := by
  rw [val_main_v35_apply, ← sum_apply x0 x1 x2 x3 x4 x5 x6 x7 x8 x9 x10 id hid]
  rw [show val_main_call3_v12 (F := Ideal) x1 (ix1 n) = 1#1 from take_bit x1 id hid _, ValueIdx.select_one]
  exact Routing.gather_take1 gather_S16_S32768x1_S32768_n_0_n_n_0_1_1 rfl rfl rfl rfl
    (val_main_v34 (F := Ideal) x0 x1 x2 x3 x4 x5 x6 x7 x8 x9 x10) (val_main_call3_v5 (F := Ideal) x1) n (id n)
    (take_word x1 id hid _) (by norm_num)

/-- The reference at a node, from the nodes' scores `e`. -/
theorem reference_apply (hid : ∀ n, x1 (ix1 n) = BitVec.ofNat 32 (id n).val) (e : Fin 32768 → EReal)
    (he : ∀ n, e n = score x9 x10 (unit x7 x8 (latent x2 x3 x4 (id n)) (features x0 x5 x6 n))) (i : S32768x1.Idx) :
    val_main_v39 (F := Ideal) x0 x1 x2 x3 x4 x5 x6 x7 x8 x9 x10 i
      = Ideal.div (Ideal.exp (e (i 0) - segMax e id (id (i 0))))
          (segSum (fun j => Ideal.exp (e j - segMax e id (id j))) id (id (i 0)) + Ideal.ofBits .f32 0x24E69595#32) := by
  have hs : (fun n => val_main_v19 (F := Ideal) x0 x1 x2 x3 x4 x5 x6 x7 x8 x9 x10 (ix1 n)) = e :=
    funext fun n => (score_apply x0 x1 x2 x3 x4 x5 x6 x7 x8 x9 x10 id hid n).trans (he n).symm
  have hx : ∀ n : Fin 32768, val_main_v31 (F := Ideal) x0 x1 x2 x3 x4 x5 x6 x7 x8 x9 x10 (ix1 n)
      = Ideal.exp (e n - segMax e id (id n)) := fun n => by
    rw [val_main_v31_apply, val_main_v30_apply, takenMax_apply x0 x1 x2 x3 x4 x5 x6 x7 x8 x9 x10 id hid, hs]
    rw [show val_main_v19 (F := Ideal) x0 x1 x2 x3 x4 x5 x6 x7 x8 x9 x10 (ix1 n) = e n from congrFun hs n]
    rfl
  obtain ⟨n, hn⟩ : ∃ n : Fin 32768, n = i 0 := ⟨_, rfl⟩
  rw [val_main_v39_apply, show idx_main_v39 i = ix1 n from funext fun a => by fin_cases a; exact hn.symm, ← hn, val_main_v38_apply,
    val_main_v37_apply, takenSum_apply x0 x1 x2 x3 x4 x5 x6 x7 x8 x9 x10 id hid, hx]
  simp only [hx]
  rfl

end reference

end Cert.Attn

end
-- ==== Proof.Tame.lean ====
/- What the precondition `tame` says, read off its printed function: every node's segment number is one of the sixteen,
   the entries of `x_t`, of `W_U2` and of the lower half of `W_W1` are real, and the absolute values of
   `W_W2` add up to at most `80 + b_W2`. -/
module

public import proofs.«01_k».proof.Pre_tame
public import proofs.«01_k».proof.Proof.Numbers
public import Idealize.ShloMosaic.Lib.ReduceAll
public import Idealize.ShloMosaic.Lib.WordCmp
public import Idealize.ShloMosaic.Lib.Pointwise
public import Idealize.ShloMosaic.Lib.Decide

@[expose] public section

noncomputable section

namespace Cert.Attn

open Idealize.ShloMosaic Cert.Pre_tame

/-- The side conditions of the precondition's operations. -/
instance tameFacts : Cert.Pre_tame.Facts where
  bcast_S_S32768 := by decide
  reducesTo_S32768_S_d0 := by decide
  h_S_ := by decide
  bcast_S_S32768x93 := by decide
  reducesTo_S32768x93_S_d0_1 := by decide
  bcast_S_S93x150 := by decide
  reducesTo_S93x150_S_d0_1 := by decide
  slices_S300x150_S150x150_150_0 := by decide
  bcast_S_S150x150 := by decide
  reducesTo_S150x150_S_d0_1 := by decide
  shapeCasts_S1_S_ := by decide
  reducesTo_S150x1_S_d0_1 := by decide

/-- A conjunction of bits is one only where both are. -/
theorem and_one {a b : BitVec 1} (h : IntOp.andi a b = 1#1) : a = 1#1 ∧ b = 1#1 := by
  revert a b; decide

/-- A bit of `|x| < ∞` that is set makes `x` a real. -/
theorem real_of_bit {x : EReal} (h : Ideal.cmp .olt (max x (-x)) (Ideal.ofBits .f32 0x7F800000#32) = 1#1) :
    ∃ r : ℝ, x = (r : EReal) := by
  refine real_of_abs_lt_top ?_
  rw [ofBits_posInf] at h
  by_contra hn
  simp [Ideal.cmp, hn] at h

instance : Subsingleton S_.Idx := ⟨fun a b => funext fun x => x.elim0⟩

/-- What the precondition says: the segment numbers are in range, three arguments are real, and the last layer's weights
    are bounded by its bias. -/
theorem tame_reads (x0 : FVec Ideal S32768x93 .f32) (x1 : IVec S32768 32) (x2 : FVec Ideal S16x500 .f32)
    (x3 : FVec Ideal S500x150 .f32) (x4 : FVec Ideal S150 .f32) (x5 : FVec Ideal S93x150 .f32) (x6 : FVec Ideal S150 .f32)
    (x7 : FVec Ideal S300x150 .f32) (x8 : FVec Ideal S150 .f32) (x9 : FVec Ideal S150x1 .f32) (x10 : FVec Ideal S1 .f32)
    (h : Cert.Pre_tame.fn (F := Ideal) x0 x1 x2 x3 x4 x5 x6 x7 x8 x9 x10 = fun _ => 1#1) :
    (∀ i, 0 ≤ (x1 i).toInt ∧ (x1 i).toInt < 16) ∧ (∀ i, ∃ r : ℝ, x0 i = (r : EReal)) ∧ (∀ i, ∃ r : ℝ, x5 i = (r : EReal))
      ∧ (∀ (k h : Fin 150), ∃ r : ℝ, x7 (ix2 ⟨150 + k.val, by omega⟩ h) = (r : EReal))
      ∧ ∑ k : Fin 150, max (x9 (ix2 k 0)) (-(x9 (ix2 k 0))) ≤ Ideal.ofBits .f32 0x42A00000#32 + x10 (ix1 0) := by
  have h' := congrFun h (fun a => a.elim0)
  unfold Cert.Pre_tame.fn Cert.Pre_tame.fn_part1 at h'
  dsimp only at h'
  obtain ⟨h21, h30⟩ := and_one h'
  obtain ⟨h15, h20⟩ := and_one h21
  obtain ⟨h10, h14⟩ := and_one h15
  obtain ⟨h5, h9⟩ := and_one h10
  have cast0 : ∀ j : S_.Idx, shapeCast S_ x10 Facts.shapeCasts_S1_S_ j = x10 (ix1 0) := fun j =>
    congrArg x10 (funext fun a => match a with | ⟨0, _⟩ => Subsingleton.elim (α := Fin 1) _ _)
  refine ⟨fun i => ?_, fun i => ?_, fun i => ?_, fun k hh => ?_, ?_⟩
  · obtain ⟨ha, hb⟩ := and_one (Host.reduce_andi_all _ _ _ _ _ h5 i)
    exact ⟨IntOp.cmpi_sge.1 ha, IntOp.cmpi_slt.1 hb⟩
  · exact real_of_bit (Host.reduce_andi_all _ _ _ _ _ h9 i)
  · exact real_of_bit (Host.reduce_andi_all _ _ _ _ _ h14 i)
  · have := real_of_bit (Host.reduce_andi_all _ _ _ _ _ h20 (ix2 k hh))
    obtain ⟨r, hr⟩ := this
    refine ⟨r, Eq.trans (congrArg x7 (funext fun a => Fin.ext ?_)) hr⟩
    match a with
    | ⟨0, _⟩ => rfl
    | ⟨1, _⟩ => exact (Nat.zero_add _).symm
  · have hle := h30
    change Ideal.cmp .ole (Ideal.hostReduceAdd Facts.reducesTo_S150x1_S_d0_1 (fun i => max (x9 i) (-(x9 i))) (Ideal.ofBits .f32 0#32) _)
      (Ideal.ofBits .f32 0x42A00000#32 + shapeCast S_ x10 Facts.shapeCasts_S1_S_ _) = 1#1 at hle
    rw [cast0, Ideal.hostReduceAdd_r2_a01, Ideal.ofBits_zero_f32, zero_add] at hle
    by_contra hn
    rw [Ideal.cmp] at hle
    simp [hn] at hle

end Cert.Attn

end
-- ==== Proof.Algebra.lean ====
/- The ideal kernel's result is the reference's: each node's score is the reference's, the running maxima and sums end
   at the segments', and the weight of a node is the same quotient. -/
module

public import proofs.«01_k».proof.Proof.Value
public import proofs.«01_k».proof.Proof.Payloads
public import proofs.«01_k».proof.Proof.Ref
public import proofs.«01_k».proof.Proof.Tame

@[expose] public section

set_option maxRecDepth 16384

noncomputable section

namespace Cert.Attn

open Cert.KernelIdeal Cert.KernelIdeal.Gen
open Idealize.ShloMosaic Idealize.ShloMosaic.TcCoe Idealize.SL.Sem

/-! ## Scores are reals not below −80, or all infinite -/

/-- The greater of a value and its negation is not negative. -/
theorem max_neg_nonneg (x : EReal) : 0 ≤ max x (-x) := by
  rcases le_total 0 x with h | h
  · exact le_max_of_le_left h
  · exact le_max_of_le_right (by simpa using EReal.neg_le_neg_iff.2 h)

/-- Where the bias of the last layer is a real, a score is a real, and at least −80, by the bound on the weights. -/
theorem score_real (x9 : (⟨2, ![150, 1]⟩ : Shape).Idx → EReal) (x10 : (⟨1, ![1]⟩ : Shape).Idx → EReal) (z : Fin 150 → EReal)
    (hb : ∃ r : ℝ, x10 (ix1 0) = (r : EReal))
    (hs : ∑ k : Fin 150, max (x9 (ix2 k 0)) (-(x9 (ix2 k 0))) ≤ Ideal.ofBits .f32 0x42A00000#32 + x10 (ix1 0)) :
    ∃ r : ℝ, -80 ≤ r ∧ score x9 x10 z = (r : EReal) := by
  obtain ⟨b, hb⟩ := hb
  rw [hb, ofBits_eighty, ← EReal.coe_add] at hs
  have hw : ∀ k : Fin 150, ∃ r : ℝ, x9 (ix2 k 0) = (r : EReal) := fun k =>
    real_of_abs_lt_top (lt_of_le_of_lt ((Finset.single_le_sum (fun i _ => max_neg_nonneg (x9 (ix2 i 0))) (Finset.mem_univ k)).trans hs) (EReal.coe_lt_top _))
  choose w hw using hw
  choose t ht using fun k => tanh_real (z k)
  have habs : ∀ k : Fin 150, max (x9 (ix2 k 0)) (-(x9 (ix2 k 0))) = ((|w k| : ℝ) : EReal) := fun k => by
    rw [hw, ← EReal.coe_neg, abs_eq_max_neg]
    exact (EReal.coe_strictMono.monotone.map_max).symm
  simp only [habs, ← coe_sum, EReal.coe_le_coe_iff] at hs
  refine ⟨(∑ k, t k * w k) + b, ?_, ?_⟩
  · have h : ∀ k, -|w k| ≤ t k * w k := fun k => by
      refine (abs_le.1 ?_).1
      rw [abs_mul]
      exact mul_le_of_le_one_left (abs_nonneg _) (ht k).1
    have := Finset.sum_le_sum fun k (_ : k ∈ Finset.univ) => h k
    rw [Finset.sum_neg_distrib] at this
    linarith
  · unfold score
    rw [hb, EReal.coe_add, coe_sum]
    refine congrArg (· + _) (Finset.sum_congr rfl fun k _ => ?_)
    rw [(ht k).2, hw, EReal.coe_mul]

/-- By the same bound the bias is not −∞: the absolute values of the weights add up to zero or more. -/
theorem bias_ne_bot (x9 : (⟨2, ![150, 1]⟩ : Shape).Idx → EReal) (x10 : (⟨1, ![1]⟩ : Shape).Idx → EReal)
    (hs : ∑ k : Fin 150, max (x9 (ix2 k 0)) (-(x9 (ix2 k 0))) ≤ Ideal.ofBits .f32 0x42A00000#32 + x10 (ix1 0)) :
    x10 (ix1 0) ≠ ⊥ := fun h => by
  rw [h, EReal.add_bot, le_bot_iff] at hs
  exact absurd (hs ▸ Finset.sum_nonneg fun k _ => max_neg_nonneg (x9 (ix2 k 0))) (by simp)

/-- Where the bias of the last layer is ∞, every score is infinite. -/
theorem score_infinite (x9 : (⟨2, ![150, 1]⟩ : Shape).Idx → EReal) (x10 : (⟨1, ![1]⟩ : Shape).Idx → EReal) (z : Fin 150 → EReal)
    (hb : x10 (ix1 0) = ⊤) : score x9 x10 z = ⊤ ∨ score x9 x10 z = ⊥ := by
  unfold score
  rw [hb]
  generalize (∑ k : Fin 150, Ideal.tanh (z k) * x9 (ix2 k 0)) = s
  by_cases h : s = ⊥
  · exact .inr (by rw [h, EReal.bot_add])
  · exact .inl (EReal.add_top_of_ne_bot h)

/-- A value carried over four blocks, each block taken in by `f`. -/
theorem four_steps (f : EReal → EReal → EReal) (M : ℕ → EReal) (B : Fin 4 → EReal) (s : ∀ t : Fin 4, M (t.val + 1) = f (M t.val) (B t)) :
    M 4 = f (f (f (f (M 0) (B 0)) (B 1)) (B 2)) (B 3) := by
  rw [show M 4 = f (M 3) (B 3) from s 3, show M 3 = f (M 2) (B 2) from s 2, show M 2 = f (M 1) (B 1) from s 1,
    show M 1 = f (M 0) (B 0) from s 0]

variable (m : (ℓ : Loc nD τ sig) → Buf (Elt Ideal) ℓ)

/-! ## The arguments, and what the precondition says of them -/

section core

variable (c : Dev nD) (id : Fin 32768 → Fin 16)
variable (x0 : (⟨S32768x93, .f32⟩ : BufTy).Contents (Elt Ideal)) (x1 : (⟨S32768, .i32⟩ : BufTy).Contents (Elt Ideal))
  (x2 : (⟨S16x500, .f32⟩ : BufTy).Contents (Elt Ideal)) (x3 : (⟨S500x150, .f32⟩ : BufTy).Contents (Elt Ideal))
  (x4 : (⟨S150, .f32⟩ : BufTy).Contents (Elt Ideal)) (x5 : (⟨S93x150, .f32⟩ : BufTy).Contents (Elt Ideal))
  (x6 : (⟨S150, .f32⟩ : BufTy).Contents (Elt Ideal)) (x7 : (⟨S300x150, .f32⟩ : BufTy).Contents (Elt Ideal))
  (x8 : (⟨S150, .f32⟩ : BufTy).Contents (Elt Ideal)) (x9 : (⟨S150x1, .f32⟩ : BufTy).Contents (Elt Ideal))
  (x10 : (⟨S1, .f32⟩ : BufTy).Contents (Elt Ideal))

/-- The arguments' contents on a core. -/
structure Holding : Prop where
  a0 : m ((c.tc : Thread nD τ).loc main_arg0) = x0
  a1 : m ((c.tc : Thread nD τ).loc main_arg1) = x1
  a2 : m ((c.tc : Thread nD τ).loc main_arg2) = x2
  a3 : m ((c.tc : Thread nD τ).loc main_arg3) = x3
  a4 : m ((c.tc : Thread nD τ).loc main_arg4) = x4
  a5 : m ((c.tc : Thread nD τ).loc main_arg5) = x5
  a6 : m ((c.tc : Thread nD τ).loc main_arg6) = x6
  a7 : m ((c.tc : Thread nD τ).loc main_arg7) = x7
  a8 : m ((c.tc : Thread nD τ).loc main_arg8) = x8
  a9 : m ((c.tc : Thread nD τ).loc main_arg9) = x9
  a10 : m ((c.tc : Thread nD τ).loc main_arg10) = x10

/-- A node's score as the reference has it. -/
def nodeScore (n : Fin 32768) : EReal := score x9 x10 (unit x7 x8 (latent x2 x3 x4 (id n)) (features x0 x5 x6 n))

variable (H : Holding m c x0 x1 x2 x3 x4 x5 x6 x7 x8 x9 x10)
  (hid : ∀ n, x1 (ix1 n) = BitVec.ofNat 32 (id n).val)
  (h0 : ∀ i, ∃ r : ℝ, x0 i = (r : EReal)) (h5 : ∀ i, ∃ r : ℝ, x5 i = (r : EReal))
  (h7 : ∀ (k h : Fin 150), ∃ r : ℝ, x7 (ix2 ⟨150 + k.val, by omega⟩ h) = (r : EReal))

include H hid in
/-- The segment number of a node, in its block. -/
theorem ids_block (t : Fin 4) (l : Fin 8192) :
    iblk m c 1 (point t.val) (ix2 0 l) = BitVec.ofNat 32 (id (node t l)).val := by
  rw [block_1, row_ids, H.a1]
  exact hid (node t l)

include H in
/-- The combined feature weights, from the arguments. -/
theorem weights_at (h : Fin 150) (f : Fin 93) :
    weights m c (ix2 h f) = ∑ k : Fin 150, x7 (ix2 ⟨150 + k.val, by omega⟩ h) * x5 (ix2 f k) := by
  unfold weights
  rw [block_8, block_6, H.a7, H.a5]
  exact weights_apply x7 x5 h f

include H in
/-- The segments' share of the hidden units, from the arguments. -/
theorem table_at (h : Fin 150) (b : Fin 16) :
    table m c (ix2 h b)
      = ((∑ k : Fin 150, x7 (ix2 ⟨k.val, by omega⟩ h) * latent x2 x3 x4 b k)
          + ∑ k : Fin 150, x7 (ix2 ⟨150 + k.val, by omega⟩ h) * x6 (ix1 k)) + x8 (ix1 h) := by
  unfold table latent
  rw [block_8, block_3, block_4, block_5, block_7, block_9, H.a7, H.a2, H.a3]
  refine (table_apply x7 x2 x3 (V m c main_v1) (V m c main_v2) (V m c main_v3) h b).trans ?_
  have e4 : ∀ k : Fin 150, V m c main_v1 (ix2 0 k) = x4 (ix1 k) := fun k => (row_latent m c k).trans (congrFun H.a4 _)
  have e6 : ∀ k : Fin 150, V m c main_v2 (ix2 0 k) = x6 (ix1 k) := fun k => (row_features m c k).trans (congrFun H.a6 _)
  have e8 : V m c main_v3 (ix2 h 0) = x8 (ix1 h) := (column_hidden m c h).trans (congrFun H.a8 _)
  exact congrArg₂ (· + ·) (congrArg₂ (· + ·)
    (Finset.sum_congr rfl fun k _ => congrArg (fun z : EReal => x7 (ix2 ⟨k.val, by omega⟩ h) * (_ + z)) (e4 k))
    (Finset.sum_congr rfl fun k _ => congrArg (fun z : EReal => x7 (ix2 ⟨150 + k.val, by omega⟩ h) * z) (e6 k))) e8

include H hid h0 h5 h7 in
/-- The kernel's score of a node is the reference's. -/
theorem score_at (t : Fin 4) (l : Fin 8192) :
    k0_pay12 (iblk m c 1 (point t.val)) (weights m c) (iblk m c 0 (point t.val)) (table m c) (iblk m c 10 (point t.val))
        (iblk m c 11 (point t.val)) (ix2 0 l)
      = nodeScore id x0 x2 x3 x4 x5 x6 x7 x8 x9 x10 (node t l) := by
  choose r0 h0 using h0
  choose r5 h5 using h5
  choose r7 h7 using h7
  refine (score_of _ _ _ _ _ _ l (id (node t l)) (ids_block m c id x0 x1 x2 x3 x4 x5 x6 x7 x8 x9 x10 H hid t l)).trans ?_
  rw [block_10, block_11, entry_last, H.a9, H.a10]
  unfold nodeScore score
  refine congrArg (· + x10 (ix1 0)) (Finset.sum_congr rfl fun h _ => congrArg (fun z => Ideal.tanh z * x9 (ix2 h 0)) ?_)
  simp only [weights_at m c x0 x1 x2 x3 x4 x5 x6 x7 x8 x9 x10 H, table_at m c x0 x1 x2 x3 x4 x5 x6 x7 x8 x9 x10 H, block_0, H.a0]
  unfold unit features
  simp only [h0, h5, h7]
  exact unit_eq (fun f => r0 (ix2 (node t l) f)) (fun f k => r5 (ix2 f k)) (fun k => r7 k h)
    (fun k => latent x2 x3 x4 (id (node t l)) k) (fun k => x7 (ix2 ⟨k.val, by omega⟩ h)) (fun k => x6 (ix1 k)) (x8 (ix1 h))

include H hid h0 h5 h7 in
/-- The running maximum takes in one block. -/
theorem maxima_step (t : Fin 4) (b : Fin 16) :
    maxima m c (t.val + 1) (ix2 b 0) = max (maxima m c t.val (ix2 b 0)) (Finset.univ.fold max ⊥ fun l =>
      if id (node t l) = b then nodeScore id x0 x2 x3 x4 x5 x6 x7 x8 x9 x10 (node t l) else Ideal.ofBits .f32 0xF149F2CA#32) := by
  refine (blockMax_apply _ _ _ _ _ _ _ (fun l => id (node t l)) (ids_block m c id x0 x1 x2 x3 x4 x5 x6 x7 x8 x9 x10 H hid t) b).trans ?_
  simp only [score_at m c id x0 x1 x2 x3 x4 x5 x6 x7 x8 x9 x10 H hid h0 h5 h7 t]

include H hid h0 h5 h7 in
/-- The running sum takes in one block. -/
theorem sums_step (t : Fin 4) (b : Fin 16) :
    sums m c (t.val + 1) (ix2 b 0) = sums m c t.val (ix2 b 0) + ∑ l,
      if id (node t l) = b then Ideal.exp (nodeScore id x0 x2 x3 x4 x5 x6 x7 x8 x9 x10 (node t l)) else 0 := by
  refine (blockSum_apply _ _ _ _ _ _ _ (fun l => id (node t l)) (ids_block m c id x0 x1 x2 x3 x4 x5 x6 x7 x8 x9 x10 H hid t) b).trans ?_
  simp only [score_at m c id x0 x1 x2 x3 x4 x5 x6 x7 x8 x9 x10 H hid h0 h5 h7 t]

include H hid h0 h5 h7 in
/-- After the four blocks the maximum is the segment's, or the floor it began at. -/
theorem maxima_end (b : Fin 16) :
    maxima m c 4 (ix2 b 0) = max (segMax (nodeScore id x0 x2 x3 x4 x5 x6 x7 x8 x9 x10) id b) (Ideal.ofBits .f32 0xF149F2CA#32) := by
  refine (four_steps max (fun n => maxima m c n (ix2 b 0)) _
    fun t => maxima_step m c id x0 x1 x2 x3 x4 x5 x6 x7 x8 x9 x10 H hid h0 h5 h7 t b).trans ?_
  rw [show maxima m c 0 (ix2 b 0) = Ideal.ofBits .f32 0xF149F2CA#32 from maxima_start b]
  exact max_blocks _ id b _

include H hid h0 h5 h7 in
/-- After the four blocks the sum is the segment's. -/
theorem sums_end (b : Fin 16) :
    sums m c 4 (ix2 b 0) = segSum (fun n => Ideal.exp (nodeScore id x0 x2 x3 x4 x5 x6 x7 x8 x9 x10 n)) id b := by
  refine (four_steps (· + ·) (fun n => sums m c n (ix2 b 0)) _
    fun t => sums_step m c id x0 x1 x2 x3 x4 x5 x6 x7 x8 x9 x10 H hid h0 h5 h7 t b).trans ?_
  rw [show sums m c 0 (ix2 b 0) = 0 from sums_start b]
  exact sum_blocks fun n => if id n = b then Ideal.exp (nodeScore id x0 x2 x3 x4 x5 x6 x7 x8 x9 x10 n) else 0

include H hid h0 h5 h7 in
/-- The kernel's weight of a node. -/
theorem result_at (n : Fin 32768) :
    result m c (ix2 0 n)
      = Ideal.exp (nodeScore id x0 x2 x3 x4 x5 x6 x7 x8 x9 x10 n)
        * factor (max (segMax (nodeScore id x0 x2 x3 x4 x5 x6 x7 x8 x9 x10) id (id n)) (Ideal.ofBits .f32 0xF149F2CA#32))
            (segSum (fun j => Ideal.exp (nodeScore id x0 x2 x3 x4 x5 x6 x7 x8 x9 x10 j)) id (id n)) := by
  obtain ⟨t, l, rfl⟩ := node_surj n
  unfold result
  rw [resultRow_node, weight_apply _ _ _ _ l (id (node t l)),
    maxima_end m c id x0 x1 x2 x3 x4 x5 x6 x7 x8 x9 x10 H hid h0 h5 h7, sums_end m c id x0 x1 x2 x3 x4 x5 x6 x7 x8 x9 x10 H hid h0 h5 h7]
  · rw [← score_at m c id x0 x1 x2 x3 x4 x5 x6 x7 x8 x9 x10 H hid h0 h5 h7 t l]
    unfold scores k0_pay13
    simp only [shapeCast_id]
  · show iblk m c 2 (point 3) (ix2 0 (node t l)) = _
    rw [block_2, row_ids, H.a1]
    exact hid (node t l)

end core

/-- Under the precondition the kernel's result at a node is the reference's. -/
theorem result_eq (c : Dev nD) (x0 : (⟨S32768x93, .f32⟩ : BufTy).Contents (Elt Ideal)) (x1 : (⟨S32768, .i32⟩ : BufTy).Contents (Elt Ideal))
    (x2 : (⟨S16x500, .f32⟩ : BufTy).Contents (Elt Ideal)) (x3 : (⟨S500x150, .f32⟩ : BufTy).Contents (Elt Ideal))
    (x4 : (⟨S150, .f32⟩ : BufTy).Contents (Elt Ideal)) (x5 : (⟨S93x150, .f32⟩ : BufTy).Contents (Elt Ideal))
    (x6 : (⟨S150, .f32⟩ : BufTy).Contents (Elt Ideal)) (x7 : (⟨S300x150, .f32⟩ : BufTy).Contents (Elt Ideal))
    (x8 : (⟨S150, .f32⟩ : BufTy).Contents (Elt Ideal)) (x9 : (⟨S150x1, .f32⟩ : BufTy).Contents (Elt Ideal))
    (x10 : (⟨S1, .f32⟩ : BufTy).Contents (Elt Ideal)) (H : Holding m c x0 x1 x2 x3 x4 x5 x6 x7 x8 x9 x10)
    (ht : Cert.Pre_tame.fn (F := Ideal) x0 x1 x2 x3 x4 x5 x6 x7 x8 x9 x10 = fun _ => 1#1) (n : Fin 32768) :
    result m c (ix2 0 n) = Cert.ReferenceIdeal.Read.val_main_v39 (F := Ideal) x0 x1 x2 x3 x4 x5 x6 x7 x8 x9 x10 (ix2 n 0) := by
  obtain ⟨h1, h0, h5, h7, h9⟩ := tame_reads x0 x1 x2 x3 x4 x5 x6 x7 x8 x9 x10 ht
  let id : Fin 32768 → Fin 16 := fun n => ⟨(x1 (ix1 n)).toInt.toNat, by have := h1 (ix1 n); omega⟩
  have hid : ∀ n, x1 (ix1 n) = BitVec.ofNat 32 (id n).val := fun n => by
    show x1 (ix1 n) = BitVec.ofNat 32 (x1 (ix1 n)).toInt.toNat
    have := h1 (ix1 n)
    rw [← BitVec.ofInt_natCast, Int.toNat_of_nonneg this.1, BitVec.ofInt_toInt]
  rw [reference_apply x0 x1 x2 x3 x4 x5 x6 x7 x8 x9 x10 id hid (nodeScore id x0 x2 x3 x4 x5 x6 x7 x8 x9 x10) fun _ => rfl,
    result_at m c id x0 x1 x2 x3 x4 x5 x6 x7 x8 x9 x10 H hid h0 h5 h7 n]
  by_cases hb : x10 (ix1 0) = ⊤
  · have he : ∀ n, nodeScore id x0 x2 x3 x4 x5 x6 x7 x8 x9 x10 n = ⊤ ∨ nodeScore id x0 x2 x3 x4 x5 x6 x7 x8 x9 x10 n = ⊥ :=
      fun n => score_infinite x9 x10 (unit x7 x8 (latent x2 x3 x4 (id n)) (features x0 x5 x6 n)) hb
    generalize nodeScore id x0 x2 x3 x4 x5 x6 x7 x8 x9 x10 = e at he ⊢
    exact weight_infinite e id he n
  have h10 : ∃ r : ℝ, x10 (ix1 0) = (r : EReal) := ⟨_, (EReal.coe_toReal hb (bias_ne_bot x9 x10 h9)).symm⟩
  choose e he using fun n => score_real x9 x10 (unit x7 x8 (latent x2 x3 x4 (id n)) (features x0 x5 x6 n)) h10 h9
  have hs : nodeScore id x0 x2 x3 x4 x5 x6 x7 x8 x9 x10 = fun n => (e n : EReal) := funext fun n => (he n).2
  rw [hs]
  exact weight_eq e id (fun n => (he n).1) n

end Cert.Attn

end
-- ==== Proof.Readings.lean ====
/- The kernel's program is printed twice, once for the reading at bits and once for the reading at extended reals. No
   rewrite is applied between the two, so they are the same program, and the frame proved for one reading in `Body` is the
   frame of the other. -/
module

public import proofs.«01_k».proof.Defs
public import proofs.«01_k».proof.Proof.Gen.Kernel
public import proofs.«01_k».proof.Proof.Body

@[expose] public section

set_option maxRecDepth 65536

noncomputable section

namespace Cert.Attn

open Idealize.ShloMosaic Idealize.ShloMosaic.TcCoe Idealize.SL.Sem

local instance : Cert.Kernel.Facts := Cert.Kernel.Gen.facts
local instance : Cert.KernelIdeal.Facts := Cert.KernelIdeal.Gen.facts

variable {F : FTy → Type} [FloatOps F]

/-- The two kernel bodies are the same function of the grid point and the buffers. -/
theorem same_body : @Cert.Kernel.cc0__body F _ _ = @Cert.KernelIdeal.cc0__body F _ _ := rfl

/-- The two body tables are equal: each has one label, and it runs the body. -/
theorem same_bodies : Cert.Kernel.defs₀ (F := F) = Cert.KernelIdeal.defs₀ := by
  unfold Cert.Kernel.defs₀ Cert.KernelIdeal.defs₀
  refine congrArg Defs.onTc ?_
  funext l x
  rcases l with ⟨_ | l, hl⟩
  · rfl
  · exact absurd hl (by omega)

/-- With the pipeline's own labels added, the tables are still equal. -/
theorem same_defs : Cert.Kernel.defs (F := F) = Cert.KernelIdeal.defs :=
  congrArg (Pipeline.defs Cert.KernelIdeal.pcfgs) same_bodies

/-- The two main programs are the same. -/
theorem same_main : Cert.Kernel.main (F := F) = Cert.KernelIdeal.main := rfl

/-- The frame at bits: the run leaves every argument unchanged and every semaphore at zero. -/
theorem kernel_frame : Cert.quiescent_Kernel (hKernel := Cert.Kernel.Gen.facts) := fun m g _ => by
  have h := frame_claim (F := Bits) m g
  rw [← same_defs] at h
  exact h

end Cert.Attn

end
-- ==== Proof.lean ====
/- The claims of Defs.lean, from the modules below: the kernel's frame at the two readings, the reference's run, and the
   equality of the two results over the extended reals. -/
module

public import proofs.«01_k».proof.Defs
public import proofs.«01_k».proof.Proof.Gen.ReferenceIdeal.Run
public import proofs.«01_k».proof.Proof.Algebra
public import proofs.«01_k».proof.Proof.Readings

@[expose] public section

noncomputable section

namespace Cert.Proof

open Idealize.ShloMosaic Idealize.ShloMosaic.TcCoe Idealize.SL.Sem Cert.Attn

/-- The reference declares no semaphore, and its run leaves the arguments unchanged. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The two runs end with equal results. -/
theorem equal_results : Cert.algebraic_KernelIdeal_ReferenceIdeal_pre_tame (hKernelIdeal := Cert.KernelIdeal.Gen.facts)
    (hReferenceIdeal := Cert.ReferenceIdeal.Gen.facts) (hPre_tame := tameFacts) := by
  intro m g m' g' hpre hargs
  refine ⟨fun c => Cert.ReferenceIdeal.Value.res_main_v39 m' c, ?_, Cert.ReferenceIdeal.Value.run (F := Ideal) m' g'⟩
  refine (θ_run Cert.KernelIdeal.defs _ _).mono (fun r h c => ⟨?_, h.2 c⟩) (θ_run_and (ends m g) (unchanged m g))
  obtain ⟨e0, e1, e2, e3, e4, e5, e6, e7, e8, e9, e10⟩ := hargs c
  funext i
  obtain ⟨n, rfl⟩ : ∃ n : Fin 32768, i = ix2 n 0 := ⟨i 0, by funext a; fin_cases a <;> first | rfl | exact Subsingleton.elim (α := Fin 1) _ _⟩
  have hp := hpre c
  rw [← e0, ← e1, ← e2, ← e3, ← e4, ← e5, ← e6, ← e7, ← e8, ← e9, ← e10] at hp
  exact ((h.1 c n).trans (result_eq m c _ _ _ _ _ _ _ _ _ _ _
    ⟨e0.symm, e1.symm, e2.symm, e3.symm, e4.symm, e5.symm, e6.symm, e7.symm, e8.symm, e9.symm, e10.symm⟩ hp n)).trans
    (congrFun (Cert.ReferenceIdeal.Read.val_main_v39_eq m' c).symm (ix2 n 0))

/-- Every claim. -/
theorem claim : Cert.Claim :=
  ⟨Cert.Kernel.Gen.facts, Cert.KernelIdeal.Gen.facts, Cert.ReferenceIdeal.Gen.facts, tameFacts,
    kernel_frame,
    fun m g _ => frame_claim m g,
    fun m g _ => frame_claim m g,
    reference_frame,
    fun m g _ => reference_frame m g trivial,
    trivial,
    equal_results⟩

end Cert.Proof

end
